-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 2048]⟩ ⟨2, ![4096, 2048]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S4096x2048 : Shape := ⟨2, ![4096, 2048]⟩
abbrev S256x2048 : Shape := ⟨2, ![256, 2048]⟩
abbrev S16x256x256 : Shape := ⟨3, ![16, 256, 256]⟩
abbrev S4x8x128 : Shape := ⟨3, ![4, 8, 128]⟩
abbrev S16 : Shape := ⟨1, ![16]⟩
abbrev S4 : Shape := ⟨1, ![4]⟩
abbrev S_ : Shape := ⟨0, ![]⟩
abbrev S1 : Shape := ⟨1, ![1]⟩
abbrev S1x256x256 : Shape := ⟨3, ![1, 256, 256]⟩
abbrev S256x256 : Shape := ⟨2, ![256, 256]⟩
abbrev S1x256x2048 : Shape := ⟨3, ![1, 256, 2048]⟩
abbrev S1x1x1 : Shape := ⟨3, ![1, 1, 1]⟩
abbrev S8x128 : Shape := ⟨2, ![8, 128]⟩
abbrev S1x8x128 : Shape := ⟨3, ![1, 8, 128]⟩

abbrev nBuf : Space → Nat
  | .hbm => 3
  | .vmem => 8
  | .smem => 0
  | _ => 0

abbrev bufTy : (tb : Table) → Fin (tcTables nBuf tb) → BufTy
  | .hbm, ⟨0, _⟩ => ⟨S4096x256, .bf16⟩
  | .hbm, ⟨1, _⟩ => ⟨S4096x2048, .bf16⟩
  | .hbm, ⟨2, _⟩ => ⟨S256x2048, .f32⟩
  | .local _ .vmem, ⟨0, _⟩ => ⟨S4096x256, .bf16⟩
  | .local _ .vmem, ⟨1, _⟩ => ⟨S4096x2048, .bf16⟩
  | .local _ .vmem, ⟨2, _⟩ => ⟨S256x2048, .f32⟩
  | .local _ .vmem, ⟨3, _⟩ => ⟨S4096x256, .bf16⟩
  | .local _ .vmem, ⟨4, _⟩ => ⟨S4096x2048, .bf16⟩
  | .local _ .vmem, ⟨5, _⟩ => ⟨S16x256x256, .bf16⟩
  | .local _ .vmem, ⟨6, _⟩ => ⟨S4x8x128, .f32⟩
  | .local _ .vmem, ⟨7, _⟩ => ⟨S4x8x128, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  (ofTc nBuf bufTy 1 43 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_off1 (d0 : Dev nD) (c1_i32_64 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v69 : BitVec 32 := Scalar.addi v2 c1_i32_64
  let c16_i32_65 : BitVec 32 := 16#32
  let v70 : BitVec 32 := Scalar.remsi v69 c16_i32_65
  ![v70.toNat]
def k0_off2 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_68 : BitVec 32 := 0#32
  let c0_i32_69 : BitVec 32 := 0#32
  ![v2.toNat, 0, 0]
def k0_off4 (d0 : Dev nD) (c1_i32_64 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v69 : BitVec 32 := Scalar.addi v2 c1_i32_64
  let c16_i32_65 : BitVec 32 := 16#32
  let v70 : BitVec 32 := Scalar.remsi v69 c16_i32_65
  let c256_i32 : BitVec 32 := 256#32
  let v71 : BitVec 32 := Scalar.muli v70 c256_i32
  let c0_i32_70 : BitVec 32 := 0#32
  ![v71.toNat, 0]
def k0_dev16 (d0 : Dev nD) : Nat :=
  let c0_i32_67 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_64 : BitVec 32 := 1#32
  let v69 : BitVec 32 := Scalar.addi v2 c1_i32_64
  let c16_i32_65 : BitVec 32 := 16#32
  let v70 : BitVec 32 := Scalar.remsi v69 c16_i32_65
  let c1_i32_66 : BitVec 32 := 1#32
  let v72 : BitVec 32 := Scalar.muli v70 c1_i32_66
  let v73 : BitVec 32 := Scalar.addi c0_i32_67 v72
  v73.toNat
def k0_dev17 (d0 : Dev nD) : Nat :=
  let c0_i32_75 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_71 : BitVec 32 := 2#32
  let v81 : BitVec 32 := Scalar.addi v2 c2_i32_71
  let c16_i32_72 : BitVec 32 := 16#32
  let v82 : BitVec 32 := Scalar.remsi v81 c16_i32_72
  let c1_i32_74 : BitVec 32 := 1#32
  let v84 : BitVec 32 := Scalar.muli v82 c1_i32_74
  let v85 : BitVec 32 := Scalar.addi c0_i32_75 v84
  v85.toNat
def k0_dev18 (d0 : Dev nD) : Nat :=
  let c0_i32_83 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_79 : BitVec 32 := 3#32
  let v93 : BitVec 32 := Scalar.addi v2 c3_i32_79
  let c16_i32_80 : BitVec 32 := 16#32
  let v94 : BitVec 32 := Scalar.remsi v93 c16_i32_80
  let c1_i32_82 : BitVec 32 := 1#32
  let v96 : BitVec 32 := Scalar.muli v94 c1_i32_82
  let v97 : BitVec 32 := Scalar.addi c0_i32_83 v96
  v97.toNat
def k0_dev19 (d0 : Dev nD) : Nat :=
  let c0_i32_91 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_87 : BitVec 32 := 4#32
  let v105 : BitVec 32 := Scalar.addi v2 c4_i32_87
  let c16_i32_88 : BitVec 32 := 16#32
  let v106 : BitVec 32 := Scalar.remsi v105 c16_i32_88
  let c1_i32_90 : BitVec 32 := 1#32
  let v108 : BitVec 32 := Scalar.muli v106 c1_i32_90
  let v109 : BitVec 32 := Scalar.addi c0_i32_91 v108
  v109.toNat
def k0_dev20 (d0 : Dev nD) : Nat :=
  let c0_i32_99 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_95 : BitVec 32 := 5#32
  let v117 : BitVec 32 := Scalar.addi v2 c5_i32_95
  let c16_i32_96 : BitVec 32 := 16#32
  let v118 : BitVec 32 := Scalar.remsi v117 c16_i32_96
  let c1_i32_98 : BitVec 32 := 1#32
  let v120 : BitVec 32 := Scalar.muli v118 c1_i32_98
  let v121 : BitVec 32 := Scalar.addi c0_i32_99 v120
  v121.toNat
def k0_dev21 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_103 : BitVec 32 := 6#32
  let v129 : BitVec 32 := Scalar.addi v2 c6_i32_103
  let c16_i32_104 : BitVec 32 := 16#32
  let v130 : BitVec 32 := Scalar.remsi v129 c16_i32_104
  let c1_i32_106 : BitVec 32 := 1#32
  let v132 : BitVec 32 := Scalar.muli v130 c1_i32_106
  let v133 : BitVec 32 := Scalar.addi c0_i32_107 v132
  v133.toNat
def k0_dev22 (d0 : Dev nD) : Nat :=
  let c0_i32_115 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_111 : BitVec 32 := 7#32
  let v141 : BitVec 32 := Scalar.addi v2 c7_i32_111
  let c16_i32_112 : BitVec 32 := 16#32
  let v142 : BitVec 32 := Scalar.remsi v141 c16_i32_112
  let c1_i32_114 : BitVec 32 := 1#32
  let v144 : BitVec 32 := Scalar.muli v142 c1_i32_114
  let v145 : BitVec 32 := Scalar.addi c0_i32_115 v144
  v145.toNat
def k0_dev23 (d0 : Dev nD) : Nat :=
  let c0_i32_123 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_119 : BitVec 32 := 8#32
  let v153 : BitVec 32 := Scalar.addi v2 c8_i32_119
  let c16_i32_120 : BitVec 32 := 16#32
  let v154 : BitVec 32 := Scalar.remsi v153 c16_i32_120
  let c1_i32_122 : BitVec 32 := 1#32
  let v156 : BitVec 32 := Scalar.muli v154 c1_i32_122
  let v157 : BitVec 32 := Scalar.addi c0_i32_123 v156
  v157.toNat
def k0_dev24 (d0 : Dev nD) : Nat :=
  let c0_i32_131 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_127 : BitVec 32 := 9#32
  let v165 : BitVec 32 := Scalar.addi v2 c9_i32_127
  let c16_i32_128 : BitVec 32 := 16#32
  let v166 : BitVec 32 := Scalar.remsi v165 c16_i32_128
  let c1_i32_130 : BitVec 32 := 1#32
  let v168 : BitVec 32 := Scalar.muli v166 c1_i32_130
  let v169 : BitVec 32 := Scalar.addi c0_i32_131 v168
  v169.toNat
def k0_dev25 (d0 : Dev nD) : Nat :=
  let c0_i32_139 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_135 : BitVec 32 := 10#32
  let v177 : BitVec 32 := Scalar.addi v2 c10_i32_135
  let c16_i32_136 : BitVec 32 := 16#32
  let v178 : BitVec 32 := Scalar.remsi v177 c16_i32_136
  let c1_i32_138 : BitVec 32 := 1#32
  let v180 : BitVec 32 := Scalar.muli v178 c1_i32_138
  let v181 : BitVec 32 := Scalar.addi c0_i32_139 v180
  v181.toNat
def k0_dev26 (d0 : Dev nD) : Nat :=
  let c0_i32_147 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_143 : BitVec 32 := 11#32
  let v189 : BitVec 32 := Scalar.addi v2 c11_i32_143
  let c16_i32_144 : BitVec 32 := 16#32
  let v190 : BitVec 32 := Scalar.remsi v189 c16_i32_144
  let c1_i32_146 : BitVec 32 := 1#32
  let v192 : BitVec 32 := Scalar.muli v190 c1_i32_146
  let v193 : BitVec 32 := Scalar.addi c0_i32_147 v192
  v193.toNat
def k0_dev27 (d0 : Dev nD) : Nat :=
  let c0_i32_155 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_151 : BitVec 32 := 12#32
  let v201 : BitVec 32 := Scalar.addi v2 c12_i32_151
  let c16_i32_152 : BitVec 32 := 16#32
  let v202 : BitVec 32 := Scalar.remsi v201 c16_i32_152
  let c1_i32_154 : BitVec 32 := 1#32
  let v204 : BitVec 32 := Scalar.muli v202 c1_i32_154
  let v205 : BitVec 32 := Scalar.addi c0_i32_155 v204
  v205.toNat
def k0_dev28 (d0 : Dev nD) : Nat :=
  let c0_i32_163 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_159 : BitVec 32 := 13#32
  let v213 : BitVec 32 := Scalar.addi v2 c13_i32_159
  let c16_i32_160 : BitVec 32 := 16#32
  let v214 : BitVec 32 := Scalar.remsi v213 c16_i32_160
  let c1_i32_162 : BitVec 32 := 1#32
  let v216 : BitVec 32 := Scalar.muli v214 c1_i32_162
  let v217 : BitVec 32 := Scalar.addi c0_i32_163 v216
  v217.toNat
def k0_dev29 (d0 : Dev nD) : Nat :=
  let c0_i32_171 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_167 : BitVec 32 := 14#32
  let v225 : BitVec 32 := Scalar.addi v2 c14_i32_167
  let c16_i32_168 : BitVec 32 := 16#32
  let v226 : BitVec 32 := Scalar.remsi v225 c16_i32_168
  let c1_i32_170 : BitVec 32 := 1#32
  let v228 : BitVec 32 := Scalar.muli v226 c1_i32_170
  let v229 : BitVec 32 := Scalar.addi c0_i32_171 v228
  v229.toNat
def k0_dev30 (d0 : Dev nD) : Nat :=
  let c0_i32_179 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_175 : BitVec 32 := 15#32
  let v237 : BitVec 32 := Scalar.addi v2 c15_i32_175
  let c16_i32_176 : BitVec 32 := 16#32
  let v238 : BitVec 32 := Scalar.remsi v237 c16_i32_176
  let c1_i32_178 : BitVec 32 := 1#32
  let v240 : BitVec 32 := Scalar.muli v238 c1_i32_178
  let v241 : BitVec 32 := Scalar.addi c0_i32_179 v240
  v241.toNat
def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_187 : BitVec 32 := 256#32
  let v254 : BitVec 32 := Scalar.muli v2 c256_i32_187
  let v255 : Index := Scalar.indexCast v254
  let c0_188 : Index := 0#32
  ![v255.toNat, 0]
def k0_off6 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_189 : BitVec 32 := 256#32
  let v257 : BitVec 32 := Scalar.muli v2 c256_i32_189
  let v258 : Index := Scalar.indexCast v257
  let c0_190 : Index := 0#32
  ![v258.toNat, 0]
def k0_off7 (d0 : Dev nD) (c1_i32_194 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_193 : BitVec 32 := 16#32
  let v262 : BitVec 32 := Scalar.addi v2 c16_i32_193
  let v263 : BitVec 32 := Scalar.subi v262 c1_i32_194
  let c16_i32_195 : BitVec 32 := 16#32
  let v264 : BitVec 32 := Scalar.remsi v263 c16_i32_195
  ![v264.toNat]
def k0_off8 (d0 : Dev nD) (c1_i32_194 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_193 : BitVec 32 := 16#32
  let v262 : BitVec 32 := Scalar.addi v2 c16_i32_193
  let v263 : BitVec 32 := Scalar.subi v262 c1_i32_194
  let c16_i32_195 : BitVec 32 := 16#32
  let v264 : BitVec 32 := Scalar.remsi v263 c16_i32_195
  let c0_i32_198 : BitVec 32 := 0#32
  let c0_i32_199 : BitVec 32 := 0#32
  ![v264.toNat, 0, 0]
def k0_off9 (d0 : Dev nD) (c1_i32_194 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_193 : BitVec 32 := 16#32
  let v262 : BitVec 32 := Scalar.addi v2 c16_i32_193
  let v263 : BitVec 32 := Scalar.subi v262 c1_i32_194
  let c16_i32_195 : BitVec 32 := 16#32
  let v264 : BitVec 32 := Scalar.remsi v263 c16_i32_195
  let v275 : Index := Scalar.indexCast v264
  let c0_204 : Index := 0#32
  let c0_205 : Index := 0#32
  ![v275.toNat, 0, 0]
def k0_off10 (d0 : Dev nD) (c1_i32_194 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_193 : BitVec 32 := 16#32
  let v262 : BitVec 32 := Scalar.addi v2 c16_i32_193
  let v263 : BitVec 32 := Scalar.subi v262 c1_i32_194
  let c16_i32_195 : BitVec 32 := 16#32
  let v264 : BitVec 32 := Scalar.remsi v263 c16_i32_195
  let c256_i32_206 : BitVec 32 := 256#32
  let v278 : BitVec 32 := Scalar.muli v264 c256_i32_206
  let v279 : Index := Scalar.indexCast v278
  let c0_207 : Index := 0#32
  ![v279.toNat, 0]
def k0_dev31 (d0 : Dev nD) : Nat :=
  let c0_i32_535 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_526 : BitVec 32 := 1#32
  let v674 : BitVec 32 := Scalar.xori v2 c1_i32_526
  let c1_i32_534 : BitVec 32 := 1#32
  let v679 : BitVec 32 := Scalar.muli v674 c1_i32_534
  let v680 : BitVec 32 := Scalar.addi c0_i32_535 v679
  v680.toNat
def k0_dev32 (d0 : Dev nD) : Nat :=
  let c0_i32_570 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_562 : BitVec 32 := 2#32
  let v706 : BitVec 32 := Scalar.xori v2 c2_i32_562
  let c1_i32_569 : BitVec 32 := 1#32
  let v711 : BitVec 32 := Scalar.muli v706 c1_i32_569
  let v712 : BitVec 32 := Scalar.addi c0_i32_570 v711
  v712.toNat
def k0_dev33 (d0 : Dev nD) : Nat :=
  let c0_i32_605 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_597 : BitVec 32 := 4#32
  let v738 : BitVec 32 := Scalar.xori v2 c4_i32_597
  let c1_i32_604 : BitVec 32 := 1#32
  let v743 : BitVec 32 := Scalar.muli v738 c1_i32_604
  let v744 : BitVec 32 := Scalar.addi c0_i32_605 v743
  v744.toNat
def k0_dev34 (d0 : Dev nD) : Nat :=
  let c0_i32_640 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_632 : BitVec 32 := 8#32
  let v770 : BitVec 32 := Scalar.xori v2 c8_i32_632
  let c1_i32_639 : BitVec 32 := 1#32
  let v775 : BitVec 32 := Scalar.muli v770 c1_i32_639
  let v776 : BitVec 32 := Scalar.addi c0_i32_640 v775
  v776.toNat
abbrev stage0_0 : Fin 1 → Memref sig .tc .vmem S4096x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩
abbrev S1x1 : Shape := ⟨2, ![1, 1]⟩

abbrev nBuf : Space → Nat
  | .hbm => 10
  | .vmem => 3
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S1x1, .f32⟩
  | .hbm, ⟨9, _⟩ => ⟨S4096x2048, .f32⟩
  | .local _ .vmem, ⟨0, _⟩ => ⟨S4096x2048, .f32⟩
  | .local _ .vmem, ⟨1, _⟩ => ⟨S1x1, .f32⟩
  | .local _ .vmem, ⟨2, _⟩ => ⟨S4096x2048, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Mesh.lean ====
/-
# The mesh, the buffers' blocks and the semaphores

Sixteen devices. Device `c` holds a block of columns of `x` and all of `w`. It sends each other
device the block of rows of its own columns that device needs, and it receives one block from each.
This module names the devices a device talks to, the block of each buffer a transfer moves, and the
semaphores a transfer completes on, and states the few facts about them the rest needs.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The devices -/

/-- The device `t` places after `c` around the mesh. -/
def peer (c : Dev nD) (t : ℕ) : Dev nD := ⟨(c.val + t) % 16, Nat.mod_lt _ (by decide)⟩
/-- The device `t` places before `c` around the mesh. -/
def back (c : Dev nD) (t : ℕ) : Dev nD := ⟨(c.val + (16 - t)) % 16, Nat.mod_lt _ (by decide)⟩
/-- The device `c` exchanges its maximum with in round `r`: the one whose number differs in bit `r`. -/
def mate (c : Dev nD) (r : Fin 4) : Dev nD := ⟨(c.val ^^^ (2 ^ r.val)) % 16, Nat.mod_lt _ (by decide)⟩

theorem mate_mate (c : Dev nD) (r : Fin 4) : mate (mate c r) r = c := by revert c r; decide
theorem mate_ne (c : Dev nD) (r : Fin 4) : mate c r ≠ c := by revert c r; decide

/-- The exchange of round `r`, as a permutation of the devices. -/
def mates (r : Fin 4) : Dev nD ≃ Dev nD := ⟨fun c => mate c r, fun c => mate c r, fun c => mate_mate c r, fun c => mate_mate c r⟩

theorem peer_ne (c : Dev nD) {t : ℕ} (h₀ : 0 < t) (h₁ : t < 16) : peer c t ≠ c := fun h => by
  have := congrArg Fin.val h; have hc := c.isLt; simp only [peer] at this; change c.val < 16 at hc; omega
theorem back_ne (c : Dev nD) {t : ℕ} (h₀ : 0 < t) (h₁ : t < 16) : back c t ≠ c := fun h => by
  have := congrArg Fin.val h; have hc := c.isLt; simp only [back] at this; change c.val < 16 at hc; omega

/-- The fifteen devices after `c`, one place after another, are the devices other than `c`. -/
theorem peers_image (c : Dev nD) : (Finset.range 15).image (fun i => peer c (i + 1)) = Finset.univ.erase c := by
  revert c; decide
theorem peers_inj (c : Dev nD) : Set.InjOn (fun i => peer c (i + 1)) (Finset.range 15 : Set ℕ) := by
  intro i hi j hj h
  simp only [Finset.coe_range, Set.mem_Iio] at hi hj
  have := congrArg Fin.val h; have hc := c.isLt; simp only [peer] at this; change c.val < 16 at hc; omega
/-- The fifteen devices before `c`, one place before another, are the devices other than `c`. -/
theorem backs_image (c : Dev nD) : (Finset.range 15).image (fun i => back c (i + 1)) = Finset.univ.erase c := by
  revert c; decide
theorem backs_inj (c : Dev nD) : Set.InjOn (fun i => back c (i + 1)) (Finset.range 15 : Set ℕ) := by
  intro i hi j hj h
  simp only [Finset.coe_range, Set.mem_Iio] at hi hj
  have := congrArg Fin.val h; have hc := c.isLt; simp only [back] at this; change c.val < 16 at hc; omega

/-! ## The buffers and their blocks -/

abbrev xM : Memref sig .tc .vmem S4096x256 .bf16 := Memref.whole cc0_stg0_0
abbrev wM : Memref sig .tc .vmem S4096x2048 .bf16 := Memref.whole cc0_stg1_0
abbrev oM : Memref sig .tc .vmem S256x2048 .f32 := Memref.whole cc0_stg2_0
abbrev xbM : Memref sig .tc .vmem S4096x256 .bf16 := Memref.whole cc0_scratch0
abbrev wbM : Memref sig .tc .vmem S4096x2048 .bf16 := Memref.whole cc0_scratch1
abbrev cmM : Memref sig .tc .vmem S16x256x256 .bf16 := Memref.whole cc0_scratch2
abbrev asM : Memref sig .tc .vmem S4x8x128 .f32 := Memref.whole cc0_scratch3
abbrev arM : Memref sig .tc .vmem S4x8x128 .f32 := Memref.whole cc0_scratch4

theorem inb_row (j : Fin 16) : ∀ a, (![256 * j.val, 0] : Fin 2 → ℕ) a + S256x256.size a ≤ S4096x256.size a := by
  revert j; decide
theorem inb_wrow (j : Fin 16) : ∀ a, (![256 * j.val, 0] : Fin 2 → ℕ) a + S256x2048.size a ≤ S4096x2048.size a := by
  revert j; decide
theorem inb_slot (j : Fin 16) : ∀ a, (![j.val, 0, 0] : Fin 3 → ℕ) a + S1x256x256.size a ≤ S16x256x256.size a := by
  revert j; decide
theorem inb_am (r : Fin 4) : ∀ a, (![r.val, 0, 0] : Fin 3 → ℕ) a + S1x8x128.size a ≤ S4x8x128.size a := by
  revert r; decide
theorem inb_ix16 (j : Fin 16) : ∀ a, (![j.val] : Fin 1 → ℕ) a + S1.size a ≤ S16.size a := by
  revert j; decide
theorem inb_ix4 (r : Fin 4) : ∀ a, (![r.val] : Fin 1 → ℕ) a + S1.size a ≤ S4.size a := by
  revert r; decide

abbrev rowR (j : Fin 16) : Rect S4096x256 := Rect.unit (s := S4096x256) ![256 * j.val, 0] S256x256.size (inb_row j)
abbrev wrowR (j : Fin 16) : Rect S4096x2048 := Rect.unit (s := S4096x2048) ![256 * j.val, 0] S256x2048.size (inb_wrow j)
abbrev slotR (j : Fin 16) : Rect S16x256x256 := Rect.unit (s := S16x256x256) ![j.val, 0, 0] S1x256x256.size (inb_slot j)
abbrev amR (r : Fin 4) : Rect S4x8x128 := Rect.unit (s := S4x8x128) ![r.val, 0, 0] S1x8x128.size (inb_am r)

/-- Block `j` of the rows of a device's copy of its columns of `x`. -/
abbrev xRow (j : Fin 16) : Memref sig .tc .vmem S256x256 .bf16 := xbM.slice (rowR j) (fun _ => rfl)
/-- The place for the block received from device `j`. -/
abbrev cSlot (j : Fin 16) : Memref sig .tc .vmem S256x256 .bf16 := (cmM.slice (slotR j) (fun _ => rfl)).squeeze S256x256 squeezes_S1x256x256_S256x256
/-- The place the maximum sent in round `r` is written to. -/
abbrev sSlot (r : Fin 4) : Memref sig .tc .vmem S8x128 .f32 := (asM.slice (amR r) (fun _ => rfl)).squeeze S8x128 squeezes_S1x8x128_S8x128
/-- The place the maximum received in round `r` lands in. -/
abbrev rSlot (r : Fin 4) : Memref sig .tc .vmem S8x128 .f32 := (arM.slice (amR r) (fun _ => rfl)).squeeze S8x128 squeezes_S1x8x128_S8x128

theorem xRow_set (j : Fin 16) : (xRow j).view.set = (rowR j).set := View.set_slice_whole _ _
theorem cSlot_set (j : Fin 16) : (cSlot j).view.set = (slotR j).set :=
  (View.set_reshape _ _).trans (View.set_slice_whole _ _)
theorem sSlot_set (r : Fin 4) : (sSlot r).view.set = (amR r).set := (View.set_reshape _ _).trans (View.set_slice_whole _ _)
theorem rSlot_set (r : Fin 4) : (rSlot r).view.set = (amR r).set := (View.set_reshape _ _).trans (View.set_slice_whole _ _)

theorem rows_disjoint : ∀ j ∈ (Finset.univ : Finset (Fin 16)), ∀ j' ∈ (Finset.univ : Finset (Fin 16)), j ≠ j' → Disjoint (rowR j).set (rowR j').set := by
  intro j _ j' _ h
  refine Rect.unit_disjoint (0 : Fin 2) ?_
  have : j.val ≠ j'.val := fun e => h (Fin.ext e)
  show 256 * j.val + 256 ≤ 256 * j'.val ∨ 256 * j'.val + 256 ≤ 256 * j.val
  omega
theorem slots_disjoint : ∀ j ∈ (Finset.univ : Finset (Fin 16)), ∀ j' ∈ (Finset.univ : Finset (Fin 16)), j ≠ j' → Disjoint (slotR j).set (slotR j').set := by
  intro j _ j' _ h
  refine Rect.unit_disjoint (0 : Fin 3) ?_
  have : j.val ≠ j'.val := fun e => h (Fin.ext e)
  show j.val + 1 ≤ j'.val ∨ j'.val + 1 ≤ j.val
  omega
theorem ams_disjoint : ∀ j ∈ (Finset.univ : Finset (Fin 4)), ∀ j' ∈ (Finset.univ : Finset (Fin 4)), j ≠ j' → Disjoint (amR j).set (amR j').set := by
  intro j _ j' _ h
  refine Rect.unit_disjoint (0 : Fin 3) ?_
  have : j.val ≠ j'.val := fun e => h (Fin.ext e)
  show j.val + 1 ≤ j'.val ∨ j'.val + 1 ≤ j.val
  omega

theorem rows_cover : (Finset.univ : Finset (Fin 16)).biUnion (fun j => (rowR j).set) = Finset.univ := by
  ext i; simp only [Finset.mem_biUnion, Finset.mem_univ, true_and, iff_true]
  have h0 : (i 0).val < 4096 := (i 0).isLt
  have h1 : (i 1).val < 256 := (i 1).isLt
  refine ⟨⟨(i 0).val / 256, by omega⟩, Rect.mem_set_unit.mpr (Fin.forall_fin_two.mpr ⟨?_, ?_⟩)⟩
  · show 256 * ((i 0).val / 256) ≤ (i 0).val ∧ (i 0).val < 256 * ((i 0).val / 256) + 256; omega
  · show 0 ≤ (i 1).val ∧ (i 1).val < 0 + 256; omega
theorem slots_cover : (Finset.univ : Finset (Fin 16)).biUnion (fun j => (slotR j).set) = Finset.univ := by
  ext i; simp only [Finset.mem_biUnion, Finset.mem_univ, true_and, iff_true]
  have h0 : (i 0).val < 16 := (i 0).isLt
  have h1 : (i 1).val < 256 := (i 1).isLt
  have h2 : (i 2).val < 256 := (i 2).isLt
  refine ⟨⟨(i 0).val, h0⟩, Rect.mem_set_unit.mpr fun a => ?_⟩
  fin_cases a
  · show (i 0).val ≤ (i 0).val ∧ (i 0).val < (i 0).val + 1; omega
  · show 0 ≤ (i 1).val ∧ (i 1).val < 0 + 256; omega
  · show 0 ≤ (i 2).val ∧ (i 2).val < 0 + 256; omega
theorem ams_cover : (Finset.univ : Finset (Fin 4)).biUnion (fun j => (amR j).set) = Finset.univ := by
  ext i; simp only [Finset.mem_biUnion, Finset.mem_univ, true_and, iff_true]
  have h0 : (i 0).val < 4 := (i 0).isLt
  have h1 : (i 1).val < 8 := (i 1).isLt
  have h2 : (i 2).val < 128 := (i 2).isLt
  refine ⟨⟨(i 0).val, h0⟩, Rect.mem_set_unit.mpr fun a => ?_⟩
  fin_cases a
  · show (i 0).val ≤ (i 0).val ∧ (i 0).val < (i 0).val + 1; omega
  · show 0 ≤ (i 1).val ∧ (i 1).val < 0 + 8; omega
  · show 0 ≤ (i 2).val ∧ (i 2).val < 0 + 128; omega

/-! ## The semaphores -/

/-- The semaphore every device waits on before it sends. -/
abbrev barS : Sem sig := (SemArray.scalar (sig.barrier 0 rfl) : Sems sig S_).sem
/-- The semaphores a block's departure, a block's arrival, a maximum's departure and a maximum's arrival complete on. -/
abbrev sndS (j : Fin 16) : DmaSem sig := ((cc0_scratch5.slice (Rect.unit (s := S16) ![j.val] S1.size (inb_ix16 j))).squeeze S_ squeezes_S1_S_).sem
abbrev rcvS (j : Fin 16) : DmaSem sig := ((cc0_scratch6.slice (Rect.unit (s := S16) ![j.val] S1.size (inb_ix16 j))).squeeze S_ squeezes_S1_S_).sem
abbrev asnS (r : Fin 4) : DmaSem sig := ((cc0_scratch7.slice (Rect.unit (s := S4) ![r.val] S1.size (inb_ix4 r))).squeeze S_ squeezes_S1_S_).sem
abbrev arvS (r : Fin 4) : DmaSem sig := ((cc0_scratch8.slice (Rect.unit (s := S4) ![r.val] S1.size (inb_ix4 r))).squeeze S_ squeezes_S1_S_).sem

/-- What a semaphore is for: the entry handshake, or one of the four kinds of completion. -/
inductive Kind | bar | snd (j : Fin 16) | rcv (j : Fin 16) | asn (r : Fin 4) | arv (r : Fin 4) | other
  deriving DecidableEq

/-- The semaphore for a purpose (`other` names one no transfer between devices completes on). -/
abbrev loc : Kind → SemLoc sig
  | .bar => .reg barS
  | .snd j => .dma (sndS j)
  | .rcv j => .dma (rcvS j)
  | .asn r => .dma (asnS r)
  | .arv r => .dma (arvS r)
  | .other => .dma 0

/-- The purpose of the DMA semaphore with number `n`. -/
def kindDma (n : ℕ) : Kind :=
  if h : n < 3 then .other
  else if h : n < 19 then .snd ⟨n - 3, by omega⟩
  else if h : n < 35 then .rcv ⟨n - 19, by omega⟩
  else if h : n < 39 then .asn ⟨n - 35, by omega⟩
  else if h : n < 43 then .arv ⟨n - 39, by omega⟩
  else .other

/-- The purpose of a semaphore. -/
def kind : SemLoc sig → Kind
  | .reg _ => .bar
  | .dma q => kindDma q.val

theorem sndS_val (j : Fin 16) : (sndS j).val = 3 + j.val := by revert j; decide
theorem rcvS_val (j : Fin 16) : (rcvS j).val = 19 + j.val := by revert j; decide
theorem asnS_val (r : Fin 4) : (asnS r).val = 35 + r.val := by revert r; decide
theorem arvS_val (r : Fin 4) : (arvS r).val = 39 + r.val := by revert r; decide

theorem kind_loc (k : Kind) : kind (loc k) = k := by
  cases k with
  | bar => rfl
  | snd j => show kindDma (sndS j).val = _; rw [sndS_val]; revert j; decide
  | rcv j => show kindDma (rcvS j).val = _; rw [rcvS_val]; revert j; decide
  | asn r => show kindDma (asnS r).val = _; rw [asnS_val]; revert r; decide
  | arv r => show kindDma (arvS r).val = _; rw [arvS_val]; revert r; decide
  | other => rfl

/-- Device `c`'s semaphore for a purpose. -/
abbrev cell (c : Dev nD) (k : Kind) : GSem nD τ sig := ((c : Thread nD τ), loc k)

theorem cell_inj {c c' : Dev nD} {k k' : Kind} (h : cell c k = cell c' k') : c = c' ∧ k = k' :=
  ⟨congrArg (fun g : GSem nD τ sig => g.1.1) h, by rw [← kind_loc k, ← kind_loc k']; exact congrArg (fun g : GSem nD τ sig => kind g.2) h⟩

/-- What a block's transfer adds to a semaphore, and what a maximum's does. -/
abbrev N : ℕ := (cSlot 0).view.dmaCredit
abbrev M : ℕ := (rSlot 0).view.dmaCredit
theorem N_pos : 0 < N := View.dmaCredit_pos _ (by decide)
theorem M_pos : 0 < M := View.dmaCredit_pos _ (by decide)

end Cert.KernelIdealProof

end
-- ==== Proof.Protocol.lean ====
/-
# The contents, the schedule and what each device owes

What every buffer holds when it is passed on, as functions of the inputs alone; what each semaphore
expects, who raises it, and what raising it hands over; and what a device owes the others, summed so
that each signal and each transfer takes off the last summand.
-/
module

public import proofs.«01_k».proof.Proof.Mesh

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

abbrev UB : Type := URounds (GSem nD τ sig) (Fin 16)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The contents -/

/-- Device `c`'s copies of its inputs, as staged. -/
def xstg (c : Dev nD) : (cc0_stg0_0 : Ref sig .tc).ty.Contents (Elt F) :=
  (win0_0.blk (0 : Fin 1)).view.read (Elt F) (m ((c : Thread nD τ).loc main_arg0))
def wstg (c : Dev nD) : (cc0_stg1_0 : Ref sig .tc).ty.Contents (Elt F) :=
  (win0_1.blk (0 : Fin 1)).view.read (Elt F) (m ((c : Thread nD τ).loc main_arg1))

/-- The copies of `x` and `w` the kernel works from. -/
def xval (c : Dev nD) : (cc0_scratch0 : Ref sig .tc).ty.Contents (Elt F) := k0_pay2 (xstg m c)
def wval (c : Dev nD) : (cc0_scratch1 : Ref sig .tc).ty.Contents (Elt F) := k0_pay3 (wstg m c)

/-- What device `c` has received: from device `j`, block `c` of the rows of `j`'s columns of `x`. -/
def cval (c : Dev nD) : (cc0_scratch2 : Ref sig .tc).ty.Contents (Elt F) := fun i =>
  xval m (⟨(i 0).val, (i 0).isLt⟩ : Fin 16)
    (Shape.pair (d := ![4096, 256]) ⟨256 * c.val + (i 1).val, by
      have h1 : (i 1).val < 256 := (i 1).isLt
      have hc : c.val < 16 := c.isLt
      show _ < 4096; omega⟩ ⟨(i 2).val, (i 2).isLt⟩)

/-- The values the kernel loads from them. -/
abbrev xrow (c : Dev nD) : Vec F S256x256 .bf16 := xbM.view.readAt (Elt F) (rowR c).toLoadRect (xval m c)
abbrev wrow (c : Dev nD) (j : Fin 16) : Vec F S256x2048 .bf16 := wbM.view.readAt (Elt F) (wrowR j).toLoadRect (wval m c)
abbrev crow (c : Dev nD) (j : Fin 16) : Vec F S1x256x256 .bf16 := cmM.view.readAt (Elt F) (slotR j).toLoadRect (cval m c)

/-- The running sum after `t` received blocks. -/
def acc (c : Dev nD) : ℕ → Vec F S256x2048 .f32
  | 0 => k0_pay4 (xrow m c) (wrow m c c)
  | t + 1 => k0_pay7 (acc c t) (crow m c (back c (t + 1))) (wrow m c (back c (t + 1)))

/-- Device `c`'s maximum after `r` exchanges. -/
def amax : ℕ → Dev nD → F .f32
  | 0, c => k0_pay24 (acc m c 15)
  | r + 1, c => Scalar.maximumf (amax r c) (amax r (mate c (Fin.ofNat 4 r)))

/-- What the maximum's send and receive places hold, place by place. -/
def sval (c : Dev nD) : (cc0_scratch3 : Ref sig .tc).ty.Contents (Elt F) := fun i => amax m (i 0).val c
def rval (c : Dev nD) : (cc0_scratch4 : Ref sig .tc).ty.Contents (Elt F) := fun i =>
  amax m (i 0).val (mate c ⟨(i 0).val, (i 0).isLt⟩)

/-- The scale. -/
def scale (c : Dev nD) : F .f32 := Scalar.divf (amax m 4 c) (Scalar.ofBits .f32 0x43E00000#32)

/-- The result on device `c`. -/
def outv (c : Dev nD) : (cc0_stg2_0 : Ref sig .tc).ty.Contents (Elt F) := k0_pay1 (scale m c) (acc m c 15)

/-! ## Holding a block -/

abbrev xPts (c : Dev nD) (j : Fin 16) (f : Buf (Elt F) ((xRow j).view.loc (c : Thread nD τ))) : sProp 𝕄 :=
  (xRow j).view.loc (c : Thread nD τ) ↦[(xRow j).view.set]{fullShare} f
abbrev cPts (c : Dev nD) (j : Fin 16) (f : Buf (Elt F) ((cSlot j).view.loc (c : Thread nD τ))) : sProp 𝕄 :=
  (cSlot j).view.loc (c : Thread nD τ) ↦[(cSlot j).view.set]{fullShare} f
abbrev sPts (c : Dev nD) (r : Fin 4) (f : Buf (Elt F) ((sSlot r).view.loc (c : Thread nD τ))) : sProp 𝕄 :=
  (sSlot r).view.loc (c : Thread nD τ) ↦[(sSlot r).view.set]{fullShare} f
abbrev rPts (c : Dev nD) (r : Fin 4) (f : Buf (Elt F) ((rSlot r).view.loc (c : Thread nD τ))) : sProp 𝕄 :=
  (rSlot r).view.loc (c : Thread nD τ) ↦[(rSlot r).view.set]{fullShare} f

/-- What device `d`'s signal hands device `c`: the place on `d` for `c`'s block, and the places on `d` for
    `c`'s maximum in the rounds the two exchange in. -/
def barPay (c d : Dev nD) : sProp 𝕄 :=
  iprop((∃ f, cPts d c f) ∗ bigSep (Finset.univ : Finset (Fin 4)) fun r => if d = mate c r then iprop(∃ f, rPts d r f) else iprop(emp))

omit [FloatOps F] in
instance barPay_storable (c d : Dev nD) : BI.Storable (upEmb : UEmb _ 𝕄) (barPay (F := F) c d) := by
  unfold barPay
  have h (r : Fin 4) : BI.Storable (upEmb : UEmb _ 𝕄) (if d = mate c r then iprop(∃ f, rPts (F := F) d r f) else iprop(emp)) := by
    split <;> infer_instance
  infer_instance

/-! ## The schedule -/

/-- Who raises device `c`'s semaphore for a purpose (a name each). -/
def dutiesOf (c : Dev nD) : Kind → Finset (Fin 16)
  | .bar => Finset.univ.erase c
  | .snd j => if j = c then ∅ else {0}
  | .rcv j => if j = c then ∅ else {0}
  | .asn _ => {0}
  | .arv _ => {0}
  | .other => ∅
/-- By how much. -/
def amountOf : Kind → ℕ
  | .bar => 1
  | .snd _ => N
  | .rcv _ => N
  | .asn _ => M
  | .arv _ => M
  | .other => 1
/-- What that hands over. -/
def payOf (c : Dev nD) : Kind → Fin 16 → sProp 𝕄
  | .bar, d => barPay c d
  | .snd j, _ => xPts c j (xval m c)
  | .rcv j, _ => cPts c j (cval m c)
  | .asn r, _ => sPts c r (sval m c)
  | .arv r, _ => rPts c r (rval m c)
  | .other, _ => iprop(emp)

instance payOf_storable (c : Dev nD) (k : Kind) (d : Fin 16) : BI.Storable (upEmb : UEmb _ 𝕄) (payOf m c k d) := by
  cases k <;> (dsimp only [payOf]; infer_instance)

/-- One round. -/
def sch : Rounds.Schedule (GSem nD τ sig) (Fin 16) 𝕄 where
  duties g r := if r = 0 ∧ g.1.2 = .tc then dutiesOf g.1.1 (kind g.2) else ∅
  unitless _ := False
  amount g _ _ := amountOf (kind g.2)
  payload g _ d := payOf m g.1.1 (kind g.2) d
  amount_pos g _ _ _ := by
    cases kind g.2 <;> first | exact Nat.one_pos | exact N_pos | exact M_pos

instance sch_storable (g : GSem nD τ sig) (r : ℕ) (d : Fin 16) : BI.Storable (upEmb : UEmb _ 𝕄) ((sch m).payload g r d) :=
  payOf_storable m g.1.1 (kind g.2) d

theorem duties_cell (c : Dev nD) (k : Kind) : (sch m).duties (cell c k) 0 = dutiesOf c k := by
  show (if (0 : ℕ) = 0 ∧ (cell c k).1.2 = .tc then dutiesOf c (kind (loc k)) else ∅) = _
  rw [if_pos ⟨rfl, rfl⟩, kind_loc]
theorem duties_later (g : GSem nD τ sig) : ∀ r, 1 ≤ r → (sch m).duties g r = ∅ := fun r hr => by
  dsimp only [sch]; rw [if_neg fun h => by omega]
theorem amount_cell (c : Dev nD) (k : Kind) (d : Fin 16) : (sch m).amount (cell c k) 0 d = amountOf k := by
  show amountOf (kind (loc k)) = _; rw [kind_loc]
theorem payload_cell (c : Dev nD) (k : Kind) (d : Fin 16) : (sch m).payload (cell c k) 0 d = payOf m c k d := by
  show payOf m c (kind (loc k)) d = _; rw [kind_loc]

theorem expect_cell (c : Dev nD) (k : Kind) : (sch m).expect (cell c k) 0 = (dutiesOf c k).card * amountOf k := by
  unfold Schedule.expect Schedule.amountOf
  rw [duties_cell, Finset.sum_congr rfl fun d _ => amount_cell m c k d, Finset.sum_const, smul_eq_mul]
theorem rest_cell (c : Dev nD) (k : Kind) :
    bigSep ((sch m).duties (cell c k) 0 \ ∅) (fun d => (sch m).payload (cell c k) 0 d) = bigSep (dutiesOf c k) (payOf m c k) := by
  rw [Finset.sdiff_empty, duties_cell]; exact bigSep_congr fun d _ => payload_cell m c k d

/-- A purpose one transfer serves. -/
def Single (c : Dev nD) (k : Kind) : Prop := dutiesOf c k = {0}
theorem single_snd {c : Dev nD} {j : Fin 16} (h : j ≠ c) : Single c (.snd j) := if_neg h
theorem single_rcv {c : Dev nD} {j : Fin 16} (h : j ≠ c) : Single c (.rcv j) := if_neg h
theorem expect_single {c : Dev nD} {k : Kind} (h : Single c k) : (sch m).expect (cell c k) 0 = amountOf k := by
  rw [expect_cell, h, Finset.card_singleton, Nat.one_mul]
theorem rest_single {c : Dev nD} {k : Kind} (h : Single c k) :
    bigSep ((sch m).duties (cell c k) 0 \ ∅) (fun d => (sch m).payload (cell c k) 0 d) = payOf m c k 0 := by
  rw [rest_cell, h, bigSep_singleton]
theorem mem_single {c : Dev nD} {k : Kind} (h : Single c k) : (0 : Fin 16) ∈ (sch m).duties (cell c k) 0 := by
  rw [duties_cell, h]; exact Finset.mem_singleton_self _
theorem expect_bar (c : Dev nD) : (sch m).expect (cell c .bar) 0 = 15 := by
  rw [expect_cell]
  show (Finset.univ.erase c : Finset (Fin 16)).card * 1 = 15
  rw [Finset.card_erase_of_mem (Finset.mem_univ _), Finset.card_univ, Fintype.card_fin]

/-! ## What a device owes -/

/-- The arrivals of its maximum, the last `k` rounds' worth. -/
def oweA (c : Dev nD) (k : ℕ) : CellTallies nD τ sig Unit :=
  ∑ i ∈ Finset.range k, tallyAt (cell (mate c (Fin.ofNat 4 (3 - i))) (.arv (Fin.ofNat 4 (3 - i)))) () M
/-- With them, the arrivals of its blocks at the last `k` devices. -/
def oweR (c : Dev nD) (k : ℕ) : CellTallies nD τ sig Unit :=
  oweA c 4 + ∑ i ∈ Finset.range k, tallyAt (cell (peer c (15 - i)) (.rcv c)) () N
/-- With them, the signals to the last `k` devices. -/
def oweB (c : Dev nD) (k : ℕ) : CellTallies nD τ sig Unit :=
  oweR c 15 + ∑ i ∈ Finset.range k, tallyAt (cell (peer c (15 - i)) .bar) () 1

theorem oweA_succ (c : Dev nD) (k : ℕ) :
    oweA c (k + 1) = oweA c k + tallyAt (cell (mate c (Fin.ofNat 4 (3 - k))) (.arv (Fin.ofNat 4 (3 - k)))) () M := Finset.sum_range_succ _ _
theorem oweR_succ (c : Dev nD) (k : ℕ) : oweR c (k + 1) = oweR c k + tallyAt (cell (peer c (15 - k)) (.rcv c)) () N := by
  unfold oweR; rw [Finset.sum_range_succ, add_assoc]
theorem oweB_succ (c : Dev nD) (k : ℕ) : oweB c (k + 1) = oweB c k + tallyAt (cell (peer c (15 - k)) .bar) () 1 := by
  unfold oweB; rw [Finset.sum_range_succ, add_assoc]
theorem oweA_zero (c : Dev nD) : oweA c 0 = 0 := Finset.sum_range_zero _
theorem oweR_zero (c : Dev nD) : oweR c 0 = oweA c 4 := by unfold oweR; rw [Finset.sum_range_zero, add_zero]
theorem oweB_zero (c : Dev nD) : oweB c 0 = oweR c 15 := by unfold oweB; rw [Finset.sum_range_zero, add_zero]

/-! ## Levels: what a device waits for comes before what it then owes -/

def L (g : GSem nD τ sig) : Finset Unit := if g.1.2 = .tc then {()} else ∅
def level : Kind → ℕ
  | .bar => 1
  | .snd _ => 0
  | .rcv _ => 2
  | .asn _ => 0
  | .arv r => 3 + r.val
  | .other => 0
def lv (g : GSem nD τ sig) (_ : Unit) : ℕ := level (kind g.2)

theorem L_of_ne (g : GSem nD τ sig) (h : g.1.2 ≠ .tc) : L g = ∅ := if_neg h
theorem lv_cell (c : Dev nD) (k : Kind) : lv (cell c k) () = level k := by unfold lv; rw [kind_loc]

/-- Everything in `O` is owed at a level above `b`. -/
def Above (b : ℕ) (O : CellTallies nD τ sig Unit) : Prop := ∀ g u, 0 < O g u → u ∈ L g ∧ b < lv g u

theorem above_zero (b : ℕ) : Above b 0 := fun g u h => absurd h (by simp)
theorem above_add {b : ℕ} {O₁ O₂ : CellTallies nD τ sig Unit} (h₁ : Above b O₁) (h₂ : Above b O₂) : Above b (O₁ + O₂) :=
  fun g u h => (Pipeline.add_pos_cases h).elim (h₁ g u) (h₂ g u)
theorem above_sum {b : ℕ} {s : Finset ℕ} {O : ℕ → CellTallies nD τ sig Unit} (h : ∀ i ∈ s, Above b (O i)) : Above b (∑ i ∈ s, O i) :=
  fun g u hg => let ⟨i, hi, hp⟩ := Pipeline.sum_pos_exists hg; h i hi g u hp
theorem above_cell {b n : ℕ} (c : Dev nD) (k : Kind) (h : b < level k) : Above b (tallyAt (cell c k) () n) := fun g u hg => by
  obtain ⟨rfl, rfl⟩ := Pipeline.tallyAt_pos hg
  exact ⟨Finset.mem_singleton_self _, by rw [lv_cell]; exact h⟩

theorem above_A (c : Dev nD) (k b : ℕ) (hk : k ≤ 4) (h : b + k < 7) : Above b (oweA c k) :=
  above_sum fun i hi => above_cell _ _ (by
    have := Finset.mem_range.mp hi
    have h3 : (Fin.ofNat 4 (3 - i)).val = 3 - i := Nat.mod_eq_of_lt (by omega)
    show b < 3 + (Fin.ofNat 4 (3 - i)).val; omega)
theorem above_R (c : Dev nD) (k b : ℕ) (h : b < 2) : Above b (oweR c k) :=
  above_add (above_A c 4 b le_rfl (by omega)) (above_sum fun i hi => above_cell _ _ h)
theorem above_B (c : Dev nD) (k b : ℕ) (h : b < 1) : Above b (oweB c k) :=
  above_add (above_R c 15 b (by omega)) (above_sum fun i hi => above_cell _ _ h)

/-- A device may wait on a semaphore whose level everything it owes is above. -/
theorem mayWait (c : Dev nD) (sm : SemLoc sig) {O : CellTallies nD τ sig Unit} (h : Above (level (kind sm)) O) :
    (levAts L lv : sProp 𝕄) ⊢ MayWait (c : Thread nD τ) sm () O :=
  Pipeline.mayWait_of_levAts (Finset.mem_singleton_self _) fun g u hg => h g u hg

end Cert.KernelIdealProof

end
-- ==== Proof.Steps.lean ====
/-
# One operation at a time

A device's state is a conjunction of what it knows, what it owes, and what it holds. Each theorem here takes the
state before one operation of the kernel to the state after it: a signal, a transfer, a wait, a load, a store. The
theorems are stated for every step of a loop at once, the step's number a variable.
-/
module

public import proofs.«01_k».proof.Proof.Protocol

@[expose] public section

set_option maxRecDepth 20000

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-- The rest of device `c`'s program, run to `Q`. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## What every device knows -/

/-- The kernel's own semaphores of one device; with the handshake's, all of them. -/
abbrev OwnIx : Type := (Fin 16 ⊕ Fin 16) ⊕ (Fin 4 ⊕ Fin 4)
abbrev AllIx : Type := Unit ⊕ OwnIx

def ownKind : OwnIx → Kind
  | .inl (.inl j) => .snd j
  | .inl (.inr j) => .rcv j
  | .inr (.inl r) => .asn r
  | .inr (.inr r) => .arv r
def allKind : AllIx → Kind
  | .inl _ => .bar
  | .inr x => ownKind x

/-- The index of a purpose. -/
def ixOf : Kind → AllIx
  | .bar => .inl ()
  | .snd j => .inr (.inl (.inl j))
  | .rcv j => .inr (.inl (.inr j))
  | .asn r => .inr (.inr (.inl r))
  | .arv r => .inr (.inr (.inr r))
  | .other => .inl ()
theorem allKind_ixOf {k : Kind} (h : k ≠ .other) : allKind (ixOf k) = k := by
  cases k <;> first | rfl | exact absurd rfl h

/-- A semaphore follows the schedule. -/
def here (c : Dev nD) (k : Kind) : sProp 𝕄 := iprop(∃ κ : ℕ, cellInv ER (sch m) κ (cell c k) ∗ reached ER (cell c k) 0)
instance here_persistent (c : Dev nD) (k : Kind) : BI.Persistent (here m c k) := by unfold here; infer_instance

/-- Every semaphore of every device follows the schedule, and the levels are as stated. -/
def ctx : sProp 𝕄 :=
  iprop((bigSep (Finset.univ : Finset (Dev nD × AllIx)) fun ck => here m ck.1 (allKind ck.2)) ∗ levAts L lv)
instance ctx_persistent : BI.Persistent (ctx m) := by unfold ctx; infer_instance

theorem ctx_here (c : Dev nD) {k : Kind} (h : k ≠ .other) : ctx m ⊢ here m c k := by
  unfold ctx
  iintro ⟨H, -⟩
  iapply (show (bigSep (Finset.univ : Finset (Dev nD × AllIx)) fun ck => here m ck.1 (allKind ck.2)) ⊢ here m c k from by
    have := bigSep_elim (Φ := fun ck : Dev nD × AllIx => here m ck.1 (allKind ck.2)) (Finset.mem_univ (c, ixOf k))
    rwa [show allKind (c, ixOf k).2 = k from allKind_ixOf h] at this)
  iexact H
theorem ctx_levs : ctx m ⊢ (levAts L lv : sProp 𝕄) := by
  unfold ctx; iintro ⟨-, H⟩; iexact H

/-- What device `c` owes, whatever it has waited for. -/
def owe (c : Dev nD) (O : CellTallies nD τ sig Unit) : sProp 𝕄 := iprop(∃ W : Waits sig Unit, owes (c : Thread nD τ) O W)

/-! ## The three rules that touch a semaphore -/

section Rules

variable {m}
variable {α : Type}
variable {Q : α → sProp (MT nD τ sig Unit (Elt F) ℕ UU ℕ)} {R : sProp (MT nD τ sig Unit (Elt F) ℕ UU ℕ)}

/-- A signal to device `n`'s handshake semaphore. -/
theorem signal_step (c n : Dev nD) (hn : c ≠ n) {O O' : CellTallies nD τ sig Unit} (hO : O' = O + tallyAt (cell n .bar) () 1)
    {kk : PUnit → Prog (TpuEff nD τ sig (Elt F) Λ₀ .tc) α}
    (h : iprop(ctx m ∗ owe c O ∗ R) ⊢ run c (kk ⟨⟩) Q) :
    iprop(ctx m ∗ owe c O' ∗ (dutyTok ER (cell n .bar) 0 c ∗ barPay n c) ∗ R)
      ⊢ run c (.op (.semSignal (n : Thread nD τ) barS (1#32).toInt) kk) Q := by
  iintro ⟨#Hc, HO, ⟨Ht, Hp⟩, HR⟩
  ihave #Hh := (ctx_here m n (k := .bar) (by decide)) $$ Hc
  unfold here owe
  icases Hh with ⟨%κ, #Hi, #Hr⟩
  icases HO with ⟨%W, HO⟩
  iapply (Rounds.wp_signal 𝒱₀ ER (sch m) (c : Thread nD τ) none (dst := (n : Thread nD τ)) (κ := κ) (d := c) (k' := 1)
      (by rw [show ((n : Thread nD τ), SemLoc.reg barS) = cell n .bar from rfl, duties_cell]; exact Finset.mem_erase.mpr ⟨hn, Finset.mem_univ _⟩)
      (amount_cell m n .bar c) () O hO) $$ [HO Ht Hp]
  · isplitr; · iexact Hi
    isplitl [HO]; · iexact HO
    isplitl [Ht]; · iexact Ht
    isplitl [Hp]; · rw [show ((n : Thread nD τ), SemLoc.reg barS) = cell n .bar from rfl, payload_cell, show payOf m n .bar c = barPay n c from rfl]; iexact Hp
    iexact Hr
  iintro HO
  iapply h
  isplitr; · iexact Hc
  isplitl [HO]; · unfold owe; iexists W; iexact HO
  iexact HR

/-- A transfer to device `n`. -/
theorem send_step (c n : Dev nD) (k₁ k₂ : Kind) (h₁ : Single c k₁) (h₂ : Single n k₂) (o₁ : k₁ ≠ .other) (o₂ : k₂ ≠ .other)
    {sp sp' : Space} {s : Shape} {e : EltTy} {src : Memref sig .tc sp s e} {dst : Memref sig .tc sp' s e} {hsc : dst.view.ref.isScScratch = false}
    {hsrc : src.view.WordExact} {hdst : dst.view.WordExact} {hsem : DmaTarget.Typed sp (loc k₂) (.remote (n : Thread nD τ) dst (loc k₁) hsc)}
    (A : ℕ) (hA : dst.view.amount (loc k₂) = A) (a₁ : amountOf k₁ = A) (a₂ : amountOf k₂ = A)
    {O O' : CellTallies nD τ sig Unit} (hO : O' = O + tallyAt (cell n k₂) () A)
    (fs : Buf (Elt F) (src.view.loc (c : Thread nD τ)))
    (hp₁ : (src.view.loc (c : Thread nD τ) ↦[src.view.set]{fullShare} fs) ⊢ payOf m c k₁ 0)
    (hp₂ : ∀ fd : Buf (Elt F) (dst.view.loc (n : Thread nD τ)),
      (dst.view.loc (n : Thread nD τ) ↦[dst.view.set]{fullShare} (dst.view.write (Elt F) fd (src.view.read (Elt F) fs) Finset.univ)) ⊢ payOf m n k₂ 0)
    {kk : PUnit → Prog (TpuEff nD τ sig (Elt F) Λ₀ .tc) α}
    (h : iprop(ctx m ∗ owe c O ∗ cred (tallyAt (cell c k₁) () A) ∗ R) ⊢ run c (kk ⟨⟩) Q) :
    iprop(ctx m ∗ owe c O' ∗ ((src.view.loc (c : Thread nD τ) ↦[src.view.set]{fullShare} fs)
        ∗ (∃ fd, dst.view.loc (n : Thread nD τ) ↦[dst.view.set]{fullShare} fd)
        ∗ dutyTok ER (cell c k₁) 0 (0 : Fin 16) ∗ dutyTok ER (cell n k₂) 0 (0 : Fin 16)) ∗ R)
      ⊢ run c (.op (.enqueueDma src (.remote (n : Thread nD τ) dst (loc k₁) hsc) (loc k₂) hsrc hdst hsem) kk) Q := by
  iintro ⟨#Hc, HO, ⟨Hs, ⟨%fd, Hd⟩, Ht₁, Ht₂⟩, HR⟩
  ihave #Hh₁ := (ctx_here m c o₁) $$ Hc
  ihave #Hh₂ := (ctx_here m n o₂) $$ Hc
  unfold here owe
  icases Hh₁ with ⟨%κ₁, #Hi₁, #Hr₁⟩
  icases Hh₂ with ⟨%κ₂, #Hi₂, #Hr₂⟩
  icases HO with ⟨%W, HO⟩
  iapply (Rounds.wp_send_pointsTo 𝒱₀ ER (sch m) (c : Thread nD τ) none (κ₁ := κ₁) (κ₂ := κ₂) (r₁ := 0) (r₂ := 0) (d₁ := 0) (d₂ := 0) (fd := fd)
      (mem_single m h₁) (mem_single m h₂) () () A hA ((amount_cell m c k₁ 0).trans a₁) ((amount_cell m n k₂ 0).trans a₂) O hO (W := W)
      (by rw [payload_cell]; exact hp₁) (by rw [payload_cell]; exact hp₂ fd)) $$ [HO Hs Hd Ht₁ Ht₂]
  · isplitr; · iexact Hi₁
    isplitr; · iexact Hi₂
    isplitl [Hs]; · iexact Hs
    isplitl [Hd]; · iexact Hd
    isplitl [HO]; · iexact HO
    isplitl [Ht₁]; · iexact Ht₁
    isplitr; · iexact Hr₁
    isplitl [Ht₂]; · iexact Ht₂
    iexact Hr₂
  iintro ⟨Hcr, HO⟩
  iapply h
  isplitr; · iexact Hc
  isplitl [HO]; · unfold owe; iexists W; iexact HO
  isplitl [Hcr]; · iexact Hcr
  iexact HR

/-- A wait for everything a semaphore expects: what raising it handed over, and the semaphore back at zero. -/
theorem wait_step (c : Dev nD) (k : Kind) (o : k ≠ .other) {A : ℕ} (hA : (sch m).expect (cell c k) 0 = A)
    {O : CellTallies nD τ sig Unit} (hO : Above (level k) O) {w : TpuEff nD τ sig (Elt F) Λ₀ .tc PUnit}
    (hw : ∀ K : PUnit → sProp 𝕄, wpE (defs₀ (F := F)) 𝒱₀ (c : Thread nD τ) none Set.univ w K = waitSpec (c : Thread nD τ) Set.univ (loc k) A K)
    {kk : PUnit → Prog (TpuEff nD τ sig (Elt F) Λ₀ .tc) α}
    (h : iprop(ctx m ∗ owe c O ∗ (semVal (cell c k) 0 ∗ bigSep (dutiesOf c k) (payOf m c k)) ∗ R) ⊢ run c (kk ⟨⟩) Q) :
    iprop(ctx m ∗ owe c O ∗ (atPos ER (cell c k) 0 (∅ : Finset (Fin 16)) 0 ∗ cred (tallyAt (cell c k) () A)) ∗ R)
      ⊢ run c (.op w kk) Q := by
  have hO' : Above (level (kind (loc k))) O := by rw [kind_loc]; exact hO
  have hm0 := mayWait (F := F) c (loc k) hO'
  have hm : ctx m ⊢ MayWait (c : Thread nD τ) (loc k) () O := by
    refine BI.Entails.trans (ctx_levs m) ?_
    exact hm0
  iintro ⟨#Hc, HO, ⟨Hat, Hcr⟩, HR⟩
  ihave #Hh := (ctx_here m c o) $$ Hc
  unfold here owe
  icases Hh with ⟨%κ, #Hi, #Hr⟩
  icases HO with ⟨%W, HO⟩
  iapply (Rounds.wp_wait_rest_token 𝒱₀ ER (sch m) (c : Thread nD τ) none (κ := κ) hw (Set.mem_univ _) () (O := O) (W := W) (R := 0) (m := 0) (T := ∅)
      (by rw [Nat.zero_add]; exact hA.symm)) $$ [HO Hcr Hat]
  · isplitr; · iexact Hi
    isplitl [Hcr]; · iexact Hcr
    isplitl [HO]; · iexact HO
    isplitr
    · iapply hm
      iexact Hc
    iexact Hat
  iintro ⟨HO, Hat, -, Hpay⟩
  ihave Hp := (Entails.of_eq (rest_cell m c k)) $$ Hpay
  imod (Rounds.cell_close ER (sch m) (Set.mem_univ κ) (fun h => h) (R := 0 + 1) (duties_later m (cell c k))) $$ [Hat] with Hz
  · isplitr; · iexact Hi
    iexact Hat
  iapply h
  isplitr; · iexact Hc
  isplitl [HO]; · unfold owe; iexists (insert (loc k, ()) W); iexact HO
  isplitl [Hz Hp]
  · isplitl [Hz]; · iexact Hz
    iexact Hp
  iexact HR

/-- The same for a semaphore one transfer raises. -/
theorem wait_one (c : Dev nD) (k : Kind) (o : k ≠ .other) (hs : Single c k)
    {O : CellTallies nD τ sig Unit} (hO : Above (level k) O) {w : TpuEff nD τ sig (Elt F) Λ₀ .tc PUnit}
    (hw : ∀ K : PUnit → sProp 𝕄, wpE (defs₀ (F := F)) 𝒱₀ (c : Thread nD τ) none Set.univ w K = waitSpec (c : Thread nD τ) Set.univ (loc k) (amountOf k) K)
    {kk : PUnit → Prog (TpuEff nD τ sig (Elt F) Λ₀ .tc) α}
    (h : iprop(ctx m ∗ owe c O ∗ (semVal (cell c k) 0 ∗ payOf m c k 0) ∗ R) ⊢ run c (kk ⟨⟩) Q) :
    iprop(ctx m ∗ owe c O ∗ (atPos ER (cell c k) 0 (∅ : Finset (Fin 16)) 0 ∗ cred (tallyAt (cell c k) () (amountOf k))) ∗ R)
      ⊢ run c (.op w kk) Q :=
  wait_step c k o (expect_single m hs) hO hw (by rw [show dutiesOf c k = {0} from hs, bigSep_singleton]; exact h)

end Rules

end Cert.KernelIdealProof

end
-- ==== Proof.Phases.lean ====
/-
# The phases of a run

A phase treats fifteen peers, or four rounds, alike. Its state keeps one pile of the items still to be treated and
one of the items done; a step moves one item across. The offsets and device numbers an operation computes are
variables here, with what they equal as hypotheses.
-/
module

public import proofs.«01_k».proof.Proof.Steps

@[expose] public section

set_option maxRecDepth 20000

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable {α : Type}
variable {Q : α → sProp (MT nD τ sig Unit (Elt F) ℕ UU ℕ)} {R : sProp (MT nD τ sig Unit (Elt F) ℕ UU ℕ)}

/-! ## Piles -/

/-- The items with numbers below `k`; the items from `k` up to `15`. -/
abbrev left (Φ : ℕ → sProp (MT nD τ sig Unit (Elt F) ℕ UU ℕ)) (k : ℕ) : sProp 𝕄 := bigSep (Finset.range k) Φ
abbrev done (Φ : ℕ → sProp (MT nD τ sig Unit (Elt F) ℕ UU ℕ)) (k : ℕ) : sProp 𝕄 := bigSep (Finset.Ico k 15) Φ

omit [FloatOps F] in
theorem left_succ (Φ : ℕ → sProp (MT nD τ sig Unit (Elt F) ℕ UU ℕ)) (k : ℕ) : left Φ (k + 1) = iprop(Φ k ∗ left Φ k) := by
  show bigSep (Finset.range (k + 1)) Φ = _
  rw [Finset.range_add_one, bigSep_insert Finset.notMem_range_self]; rfl
omit [FloatOps F] in
theorem done_put (Φ : ℕ → sProp (MT nD τ sig Unit (Elt F) ℕ UU ℕ)) {k : ℕ} (h : k < 15) : done Φ k = iprop(Φ k ∗ done Φ (k + 1)) := by
  show bigSep (Finset.Ico k 15) Φ = _
  rw [show Finset.Ico k 15 = insert k (Finset.Ico (k + 1) 15) from by ext a; simp only [Finset.mem_Ico, Finset.mem_insert]; omega,
    bigSep_insert (by simp)]; rfl
omit [FloatOps F] in
theorem done_none (Φ : ℕ → sProp (MT nD τ sig Unit (Elt F) ℕ UU ℕ)) : done Φ 15 = iprop(emp) := bigSep_empty
omit [FloatOps F] in
theorem done_all (Φ : ℕ → sProp (MT nD τ sig Unit (Elt F) ℕ UU ℕ)) : done Φ 0 = left Φ 15 := by
  show bigSep (Finset.Ico 0 15) Φ = bigSep (Finset.range 15) Φ; rw [Finset.range_eq_Ico]
omit [FloatOps F] in
theorem left_none (Φ : ℕ → sProp (MT nD τ sig Unit (Elt F) ℕ UU ℕ)) : left Φ 0 = iprop(emp) := bigSep_empty

theorem flip_range : (Finset.range 15).image (fun i => 14 - i) = Finset.range 15 := by decide

omit [FloatOps F] in
/-- The items numbered by how far the other device is ahead, taken over all other devices. -/
theorem left_peers (c : Dev nD) (Ψ : Fin 16 → sProp (MT nD τ sig Unit (Elt F) ℕ UU ℕ)) :
    left (fun i => Ψ (peer c (15 - i))) 15 = bigSep (Finset.univ.erase c) Ψ := by
  rw [← peers_image c, bigSep_image_of_injOn (peers_inj c)]
  show bigSep (Finset.range 15) _ = _
  conv_rhs => rw [← flip_range]
  rw [bigSep_image_of_injOn (by intro i hi j hj h; simp only [Finset.coe_range, Set.mem_Iio] at hi hj h; omega)]
  exact bigSep_congr fun i hi => by
    have := Finset.mem_range.mp hi
    rw [show 14 - i + 1 = 15 - i from by omega]
omit [FloatOps F] in
/-- The same, numbered by how far the other device is behind. -/
theorem left_backs (c : Dev nD) (Ψ : Fin 16 → sProp (MT nD τ sig Unit (Elt F) ℕ UU ℕ)) :
    left (fun i => Ψ (back c (15 - i))) 15 = bigSep (Finset.univ.erase c) Ψ := by
  rw [← backs_image c, bigSep_image_of_injOn (backs_inj c)]
  show bigSep (Finset.range 15) _ = _
  conv_rhs => rw [← flip_range]
  rw [bigSep_image_of_injOn (by intro i hi j hj h; simp only [Finset.coe_range, Set.mem_Iio] at hi hj h; omega)]
  exact bigSep_congr fun i hi => by
    have := Finset.mem_range.mp hi
    rw [show 14 - i + 1 = 15 - i from by omega]

/-! ## Where a block's elements lie -/

theorem cSlot_emb (j : Fin 16) (y : S256x256.Idx) :
    (cSlot j).view.emb y = (slotR j).emb (Fin.cons (⟨0, Nat.one_pos⟩ : Fin 1) y) := by
  show (slotR j).emb (Shape.reshapeEquiv _ y) = _
  rw [Shape.reshapeEquiv_cons_one (n := 2) (d := ![256, 256])]; rfl
theorem sSlot_emb (r : Fin 4) (y : S8x128.Idx) :
    (sSlot r).view.emb y = (amR r).emb (Fin.cons (⟨0, Nat.one_pos⟩ : Fin 1) y) := by
  show (amR r).emb (Shape.reshapeEquiv _ y) = _
  rw [Shape.reshapeEquiv_cons_one (n := 2) (d := ![8, 128])]; rfl
theorem rSlot_emb (r : Fin 4) (y : S8x128.Idx) :
    (rSlot r).view.emb y = (amR r).emb (Fin.cons (⟨0, Nat.one_pos⟩ : Fin 1) y) := by
  show (amR r).emb (Shape.reshapeEquiv _ y) = _
  rw [Shape.reshapeEquiv_cons_one (n := 2) (d := ![8, 128])]; rfl

/-- A block sent to device `d` lands there as the contents stated. -/
theorem landed (c d : Dev nD) (fd : Buf (Elt F) ((cSlot c).view.loc (d : Thread nD τ))) :
    cPts d c ((cSlot c).view.write (Elt F) fd ((xRow d).view.read (Elt F) (xval m c)) Finset.univ) ⊢ cPts d c (cval m d) := by
  refine Entails.of_eq (pointsTo_congr fun i hi => ?_)
  obtain ⟨y, -, rfl⟩ := Finset.mem_map.mp hi
  refine (View.write_emb_of_mem _ _ (Finset.mem_univ y)).trans ?_
  show xval m c ((rowR d).emb y) = xval m _ _
  have e0 : (((cSlot c).view.emb y) 0 : ℕ) = c.val := by
    rw [cSlot_emb]; show c.val + 1 * 0 = _; omega
  have e1 : (((cSlot c).view.emb y) 1 : ℕ) = (y 0).val := by
    rw [cSlot_emb]; show 0 + 1 * (y 0).val = _; omega
  have e2 : (((cSlot c).view.emb y) 2 : ℕ) = (y 1).val := by
    rw [cSlot_emb]; show 0 + 1 * (y 1).val = _; omega
  have ec : (⟨(((cSlot c).view.emb y) 0).val, (((cSlot c).view.emb y) 0).isLt⟩ : Fin 16) = c := Fin.ext e0
  rw [ec]
  refine congrArg (xval m c) (funext fun a => Fin.ext ?_)
  refine Fin.cases ?_ (fun a => Fin.cases ?_ (fun a => a.elim0) a) a
  · show 256 * d.val + 1 * (y 0).val = 256 * d.val + (((cSlot c).view.emb y) 1).val
    rw [e1]; omega
  · show 0 + 1 * (y 1).val = (((cSlot c).view.emb y) 2).val
    rw [e2]; omega

/-! ## The signals -/

def sigL (c : Dev nD) (i : ℕ) : sProp 𝕄 :=
  iprop(dutyTok ER (cell (peer c (15 - i)) .bar) 0 c ∗ barPay (peer c (15 - i)) c)

/-- `k` signals left to send. -/
abbrev BS (c : Dev nD) (k : ℕ) (R : sProp (MT nD τ sig Unit (Elt F) ℕ UU ℕ)) : sProp 𝕄 :=
  iprop(ctx m ∗ owe c (oweB c k) ∗ left (sigL c) k ∗ R)

theorem bs_signal (c : Dev nD) (i : Fin 15) (k : ℕ) (hki : i.val + k = 14) {n : Dev nD} (hn : n.val = (c.val + (i.val + 1)) % 16)
    {kk : PUnit → Prog (TpuEff nD τ sig (Elt F) Λ₀ .tc) α} (h : BS m c k R ⊢ run c (kk ⟨⟩) Q) :
    BS m c (k + 1) R ⊢ run c (.op (.semSignal (n : Thread nD τ) barS (1#32).toInt) kk) Q := by
  obtain rfl : n = peer c (15 - k) := Fin.ext (by rw [hn]; show _ = (c.val + (15 - k)) % 16; congr 2; omega)
  have hs := signal_step (m := m) c (peer c (15 - k)) (peer_ne c (by omega) (by omega)).symm (oweB_succ c k)
    (R := iprop(left (sigL c) k ∗ R)) (kk := kk) h
  refine BIBase.Entails.trans ?_ hs
  unfold BS; rw [left_succ]; unfold sigL
  iintro ⟨Hc, HO, ⟨Hi, HL⟩, HR⟩
  isplitl [Hc]; · iexact Hc
  isplitl [HO]; · iexact HO
  isplitl [Hi]; · iexact Hi
  isplitl [HL]; · iexact HL
  iexact HR

/-! ## The transfers -/

def sndL (c : Dev nD) (i : ℕ) : sProp 𝕄 :=
  iprop(xPts c (peer c (15 - i)) (xval m c) ∗ (∃ f, cPts (peer c (15 - i)) c f)
    ∗ dutyTok ER (cell c (.snd (peer c (15 - i)))) 0 (0 : Fin 16) ∗ dutyTok ER (cell (peer c (15 - i)) (.rcv c)) 0 (0 : Fin 16))
def sndD (c : Dev nD) (i : ℕ) : sProp 𝕄 := cred (tallyAt (cell c (.snd (peer c (15 - i)))) () N)

/-- `k` blocks left to send. -/
abbrev SS (c : Dev nD) (k : ℕ) (R : sProp (MT nD τ sig Unit (Elt F) ℕ UU ℕ)) : sProp 𝕄 :=
  iprop(ctx m ∗ owe c (oweR c k) ∗ left (sndL m c) k ∗ done (sndD c) k ∗ R)

theorem ss_send (c : Dev nD) (i : Fin 15) (k : ℕ) (hki : i.val + k = 14) {n : Dev nD} (hn : n.val = (c.val + (i.val + 1)) % 16)
    {o1 o2 : Fin 1 → ℕ} {o3 : Fin 3 → ℕ} {o4 : Fin 2 → ℕ}
    (h1 : o1 = ![(c.val + i.val + 1) % 16]) (h2 : o2 = ![c.val]) (h3 : o3 = ![c.val, 0, 0]) (h4 : o4 = ![256 * ((c.val + i.val + 1) % 16), 0])
    {i1 : ∀ a, o1 a + S1.size a ≤ S16.size a} {i2 : ∀ a, o2 a + S1.size a ≤ S16.size a}
    {i3 : ∀ a, o3 a + S1x256x256.size a ≤ S16x256x256.size a} {i4 : ∀ a, o4 a + S256x256.size a ≤ S4096x256.size a}
    {hsc} {hsrc} {hdst} {hsem}
    {kk : PUnit → Prog (TpuEff nD τ sig (Elt F) Λ₀ .tc) α} (h : SS m c k R ⊢ run c (kk ⟨⟩) Q) :
    SS m c (k + 1) R ⊢ run c (.op (.enqueueDma (xbM.slice (Rect.unit (s := S4096x256) o4 S256x256.size i4) (fun _ => rfl))
      (.remote (n : Thread nD τ) ((cmM.slice (Rect.unit (s := S16x256x256) o3 S1x256x256.size i3) (fun _ => rfl)).squeeze S256x256 squeezes_S1x256x256_S256x256)
        (.dma ((cc0_scratch5.slice (Rect.unit (s := S16) o1 S1.size i1)).squeeze S_ squeezes_S1_S_).sem) hsc)
      (.dma ((cc0_scratch6.slice (Rect.unit (s := S16) o2 S1.size i2)).squeeze S_ squeezes_S1_S_).sem) hsrc hdst hsem) kk) Q := by
  have ep : (c.val + i.val + 1) % 16 = (peer c (15 - k)).val := by
    show _ = (c.val + (15 - k)) % 16; congr 1; omega
  obtain rfl : n = peer c (15 - k) := Fin.ext (by rw [hn, ← ep]; rfl)
  rw [ep] at h1 h4
  subst h1 h2 h3 h4
  have hne : peer c (15 - k) ≠ c := peer_ne c (by omega) (by omega)
  have hs := send_step (m := m) c (peer c (15 - k)) (.snd (peer c (15 - k))) (.rcv c) (single_snd hne) (single_rcv hne.symm) (by simp) (by simp)
    (src := xRow (peer c (15 - k))) (dst := cSlot c) (hsc := hsc) (hsrc := hsrc) (hdst := hdst) (hsem := hsem)
    N rfl rfl rfl (oweR_succ c k) (xval m c) .rfl (fun fd => landed m c (peer c (15 - k)) fd)
    (R := iprop(left (sndL m c) k ∗ done (sndD c) (k + 1) ∗ R)) (kk := kk) (by
      refine BIBase.Entails.trans ?_ h
      unfold SS; rw [done_put (sndD c) (show k < 15 by omega)]
      iintro ⟨Hc, HO, Hcr, HL, HD, HR⟩
      isplitl [Hc]; · iexact Hc
      isplitl [HO]; · iexact HO
      isplitl [HL]; · iexact HL
      isplitl [Hcr HD]
      · isplitl [Hcr]; · unfold sndD; iexact Hcr
        iexact HD
      iexact HR)
  refine BIBase.Entails.trans ?_ hs
  unfold SS; rw [left_succ]; unfold sndL
  iintro ⟨Hc, HO, ⟨Hi, HL⟩, HD, HR⟩
  isplitl [Hc]; · iexact Hc
  isplitl [HO]; · iexact HO
  isplitl [Hi]; · iexact Hi
  isplitl [HL]; · iexact HL
  isplitl [HD]; · iexact HD
  iexact HR

/-! ## The received blocks -/

abbrev oPts (c : Dev nD) (f : (cc0_stg2_0 : Ref sig .tc).ty.Contents (Elt F)) : sProp 𝕄 :=
  oM.view.loc (c : Thread nD τ) ↦[Finset.univ]{fullShare} f
abbrev wbPts (c : Dev nD) (f : (cc0_scratch1 : Ref sig .tc).ty.Contents (Elt F)) : sProp 𝕄 :=
  wbM.view.loc (c : Thread nD τ) ↦[Finset.univ]{fullShare} f

theorem zero2 : (![0, 0] : Fin 2 → ℕ) = fun _ => 0 := by decide

omit [FloatOps F] in
theorem read_out (f : (cc0_stg2_0 : Ref sig .tc).ty.Contents (Elt F)) :
    oM.view.readAt (Elt F) (Rect.unit (s := S256x2048) ![0, 0] S256x2048.size inb_S256x2048_S256x2048_0_0).toLoadRect f = f :=
  Memref.readAt_unit_zero (Elt F) cc0_stg2_0 zero2 _ f
omit [FloatOps F] in
theorem write_out (f w : (cc0_stg2_0 : Ref sig .tc).ty.Contents (Elt F)) :
    (oM.access (Rect.unit (s := S256x2048) ![0, 0] S256x2048.size inb_S256x2048_S256x2048_0_0)).write (Elt F) f w Finset.univ = w :=
  Memref.write_access_unit_zero_univ (Elt F) cc0_stg2_0 zero2 _ f w

/-- A load of the result, and a store of it. -/
theorem out_load {A : sProp (MT nD τ sig Unit (Elt F) ℕ UU ℕ)} (c : Dev nD) {O : CellTallies nD τ sig Unit}
    {f : (cc0_stg2_0 : Ref sig .tc).ty.Contents (Elt F)} {hl} {kk : Vec F S256x2048 .f32 → Prog (TpuEff nD τ sig (Elt F) Λ₀ .tc) α}
    (h : iprop(A ∗ owe c O ∗ oPts c f ∗ R) ⊢ run c (kk f) Q) :
    iprop(A ∗ owe c O ∗ oPts c f ∗ R)
      ⊢ run c (.op (.load oM (Rect.unit (s := S256x2048) ![0, 0] S256x2048.size inb_S256x2048_S256x2048_0_0).toLoadRect hl) kk) Q := by
  iintro ⟨Ha, HO, Ho, HR⟩
  iapply (wp_load 𝒱₀ (c : Thread nD τ) none Set.univ (m := oM) (Finset.subset_univ _)) $$ Ho; iintro Ho
  rw [read_out]
  iapply h
  isplitl [Ha]; · iexact Ha
  isplitl [HO]; · iexact HO
  isplitl [Ho]; · iexact Ho
  iexact HR
theorem out_store {A : sProp (MT nD τ sig Unit (Elt F) ℕ UU ℕ)} (c : Dev nD) {O : CellTallies nD τ sig Unit}
    {f : (cc0_stg2_0 : Ref sig .tc).ty.Contents (Elt F)} {w : Vec F S256x2048 .f32} {hx} {hm}
    (w' : Vec F S256x2048 .f32) (hw : w = w') {kk : PUnit → Prog (TpuEff nD τ sig (Elt F) Λ₀ .tc) α}
    (h : iprop(A ∗ owe c O ∗ oPts c w' ∗ R) ⊢ run c (kk ⟨⟩) Q) :
    iprop(A ∗ owe c O ∗ oPts c f ∗ R)
      ⊢ run c (.op (.store oM (Rect.unit (s := S256x2048) ![0, 0] S256x2048.size inb_S256x2048_S256x2048_0_0) w Finset.univ hx hm) kk) Q := by
  subst hw
  iintro ⟨Ha, HO, Ho, HR⟩
  iapply (wp_store 𝒱₀ (c : Thread nD τ) none Set.univ (m := oM) (r := Rect.unit (s := S256x2048) ![0, 0] S256x2048.size inb_S256x2048_S256x2048_0_0)
    (Mk := Finset.univ) (Finset.subset_univ _)) $$ Ho; iintro Ho
  rw [write_out]
  iapply h
  isplitl [Ha]; · iexact Ha
  isplitl [HO]; · iexact HO
  isplitl [Ho]; · iexact Ho
  iexact HR

def rcvL (c : Dev nD) (i : ℕ) : sProp 𝕄 :=
  iprop(atPos ER (cell c (.rcv (back c (15 - i)))) 0 (∅ : Finset (Fin 16)) 0 ∗ cred (tallyAt (cell c (.rcv (back c (15 - i)))) () N))
def rcvD (c : Dev nD) (i : ℕ) : sProp 𝕄 :=
  iprop(semVal (cell c (.rcv (back c (15 - i)))) 0 ∗ cPts c (back c (15 - i)) (cval m c))

/-- `k` blocks left to receive, the result so far `f`. -/
abbrev RS (c : Dev nD) (k : ℕ) (f : (cc0_stg2_0 : Ref sig .tc).ty.Contents (Elt F)) (R : sProp (MT nD τ sig Unit (Elt F) ℕ UU ℕ)) : sProp 𝕄 :=
  iprop(ctx m ∗ owe c (oweA c 4) ∗ oPts c f ∗ wbPts c (wval m c) ∗ left (rcvL c) k ∗ done (rcvD m c) k ∗ R)

theorem back_val (c : Dev nD) (i : Fin 15) : (c.val + 15 - i.val) % 16 = (back c (i.val + 1)).val := by
  show _ = (c.val + (16 - (i.val + 1))) % 16; congr 1; omega

theorem rs_wait (c : Dev nD) (i : Fin 15) (k : ℕ) (hki : i.val + k = 14) {f : (cc0_stg2_0 : Ref sig .tc).ty.Contents (Elt F)}
    {o7 : Fin 1 → ℕ} {o8 : Fin 3 → ℕ} (h7 : o7 = ![(c.val + 15 - i.val) % 16]) (h8 : o8 = ![(c.val + 15 - i.val) % 16, 0, 0])
    {i7 : ∀ a, o7 a + S1.size a ≤ S16.size a} {i8 : ∀ a, o8 a + S1x256x256.size a ≤ S16x256x256.size a}
    {sp : Space} {src : Memref sig .tc sp S256x256 .bf16} {hsrc} {hdst}
    {kk : PUnit → Prog (TpuEff nD τ sig (Elt F) Λ₀ .tc) α} (h : RS m c k f R ⊢ run c (kk ⟨⟩) Q) :
    RS m c (k + 1) f R ⊢ run c (.op (.waitDma2 ((cc0_scratch6.slice (Rect.unit (s := S16) o7 S1.size i7)).squeeze S_ squeezes_S1_S_).sem src
      ((cmM.slice (Rect.unit (s := S16x256x256) o8 S1x256x256.size i8) (fun _ => rfl)).squeeze S256x256 squeezes_S1x256x256_S256x256) hsrc hdst) kk) Q := by
  have eb : (c.val + 15 - i.val) % 16 = (back c (15 - k)).val := by rw [back_val]; congr 2; omega
  rw [eb] at h7 h8
  subst h7 h8
  have hne : back c (15 - k) ≠ c := back_ne c (by omega) (by omega)
  have hs := wait_one (m := m) c (.rcv (back c (15 - k))) (by simp) (single_rcv hne) (O := oweA c 4) (above_A c 4 2 le_rfl (by omega))
    (w := .waitDma2 (rcvS (back c (15 - k))) src (cSlot (back c (15 - k))) hsrc hdst) (wpE_waitDma2_eq 𝒱₀ (c : Thread nD τ) none Set.univ)
    (R := iprop(oPts c f ∗ wbPts c (wval m c) ∗ left (rcvL c) k ∗ done (rcvD m c) (k + 1) ∗ R)) (kk := kk) (by
      refine BIBase.Entails.trans ?_ h
      unfold RS; rw [done_put (rcvD m c) (show k < 15 by omega)]
      iintro ⟨Hc, HO, Hp, Ho, Hw, HL, HD, HR⟩
      isplitl [Hc]; · iexact Hc
      isplitl [HO]; · iexact HO
      isplitl [Ho]; · iexact Ho
      isplitl [Hw]; · iexact Hw
      isplitl [HL]; · iexact HL
      isplitl [Hp HD]
      · isplitl [Hp]; · unfold rcvD; iexact Hp
        iexact HD
      iexact HR)
  refine BIBase.Entails.trans ?_ hs
  unfold RS; rw [left_succ]; unfold rcvL
  iintro ⟨Hc, HO, Ho, Hw, ⟨Hi, HL⟩, HD, HR⟩
  isplitl [Hc]; · iexact Hc
  isplitl [HO]; · iexact HO
  isplitl [Hi]; · iexact Hi
  isplitl [Ho]; · iexact Ho
  isplitl [Hw]; · iexact Hw
  isplitl [HL]; · iexact HL
  isplitl [HD]; · iexact HD
  iexact HR

theorem slot_sub (j : Fin 16) : cmM.view.setOn (slotR j).toLoadRect.set ⊆ (cSlot j).view.set := by
  intro i hi
  rw [cSlot_set]
  obtain ⟨y, hy, rfl⟩ := Finset.mem_map.mp hi
  exact hy

/-- A load of the block just received. -/
theorem rs_comm (c : Dev nD) (i : Fin 15) (k : ℕ) (hki : i.val + k = 14) {f : (cc0_stg2_0 : Ref sig .tc).ty.Contents (Elt F)}
    {o9 : Fin 3 → ℕ} (h9 : o9 = ![(c.val + 15 - i.val) % 16, 0, 0])
    {i9 : ∀ a, o9 a + S1x256x256.size a ≤ S16x256x256.size a} {hl}
    {kk : Vec F S1x256x256 .bf16 → Prog (TpuEff nD τ sig (Elt F) Λ₀ .tc) α}
    (h : RS m c k f R ⊢ run c (kk (crow m c (back c (i.val + 1)))) Q) :
    RS m c k f R ⊢ run c (.op (.load cmM (Rect.unit (s := S16x256x256) o9 S1x256x256.size i9).toLoadRect hl) kk) Q := by
  have ek : i.val + 1 = 15 - k := by omega
  rw [back_val, ek] at h9
  subst h9
  rw [ek] at h
  have e := done_put (rcvD m c) (show k < 15 by omega)
  refine BIBase.Entails.trans ?_ (show iprop(ctx m ∗ owe c (oweA c 4) ∗ oPts c f ∗ wbPts c (wval m c) ∗ left (rcvL c) k ∗ (rcvD m c k ∗ done (rcvD m c) (k + 1)) ∗ R)
    ⊢ _ from ?_)
  · rw [← e]
  unfold RS at h; rw [e] at h
  unfold rcvD at h ⊢
  iintro ⟨Hc, HO, Ho, Hw, HL, ⟨⟨Hz, Hp⟩, HD⟩, HR⟩
  iapply (wp_load 𝒱₀ (c : Thread nD τ) none Set.univ (m := cmM) (f := cval m c) (slot_sub (back c (15 - k)))) $$ Hp; iintro Hp
  iapply h
  isplitl [Hc]; · iexact Hc
  isplitl [HO]; · iexact HO
  isplitl [Ho]; · iexact Ho
  isplitl [Hw]; · iexact Hw
  isplitl [HL]; · iexact HL
  isplitl [Hz Hp HD]
  · isplitl [Hz Hp]
    · isplitl [Hz]; · iexact Hz
      iexact Hp
    iexact HD
  iexact HR

/-- A load of a block of the rows of `w`. -/
theorem rs_w (c : Dev nD) (k : ℕ) (j : Fin 16) {f : (cc0_stg2_0 : Ref sig .tc).ty.Contents (Elt F)}
    {o : Fin 2 → ℕ} (ho : o = ![256 * j.val, 0])
    {io : ∀ a, o a + S256x2048.size a ≤ S4096x2048.size a} {hl}
    {kk : Vec F S256x2048 .bf16 → Prog (TpuEff nD τ sig (Elt F) Λ₀ .tc) α}
    (h : RS m c k f R ⊢ run c (kk (wrow m c j)) Q) :
    RS m c k f R ⊢ run c (.op (.load wbM (Rect.unit (s := S4096x2048) o S256x2048.size io).toLoadRect hl) kk) Q := by
  subst ho
  iintro ⟨Hc, HO, Ho, Hw, HR⟩
  iapply (wp_load 𝒱₀ (c : Thread nD τ) none Set.univ (m := wbM) (f := wval m c) (S := Finset.univ) (Finset.subset_univ _)) $$ Hw; iintro Hw
  iapply h
  isplitl [Hc]; · iexact Hc
  isplitl [HO]; · iexact HO
  isplitl [Ho]; · iexact Ho
  isplitl [Hw]; · iexact Hw
  iexact HR

/-! ## The departures -/

def depL (c : Dev nD) (i : ℕ) : sProp 𝕄 :=
  iprop(atPos ER (cell c (.snd (peer c (15 - i)))) 0 (∅ : Finset (Fin 16)) 0 ∗ sndD c i)
def depD (c : Dev nD) (i : ℕ) : sProp 𝕄 :=
  iprop(semVal (cell c (.snd (peer c (15 - i)))) 0 ∗ xPts c (peer c (15 - i)) (xval m c))

/-- `k` departures left to wait for. -/
abbrev WS (c : Dev nD) (k : ℕ) (f : (cc0_stg2_0 : Ref sig .tc).ty.Contents (Elt F)) (R : sProp (MT nD τ sig Unit (Elt F) ℕ UU ℕ)) : sProp 𝕄 :=
  iprop(ctx m ∗ owe c (oweA c 4) ∗ oPts c f ∗ left (depL c) k ∗ done (depD m c) k ∗ R)

theorem ws_wait (c : Dev nD) (i : Fin 15) (k : ℕ) (hki : i.val + k = 14) {f : (cc0_stg2_0 : Ref sig .tc).ty.Contents (Elt F)}
    {o1 : Fin 1 → ℕ} {o4 : Fin 2 → ℕ} (h1 : o1 = ![(c.val + i.val + 1) % 16]) (h4 : o4 = ![256 * ((c.val + i.val + 1) % 16), 0])
    {i1 : ∀ a, o1 a + S1.size a ≤ S16.size a} {i4 : ∀ a, o4 a + S256x256.size a ≤ S4096x256.size a}
    {sp : Space} {src : Memref sig .tc sp S256x256 .bf16} {hsrc} {hdst}
    {kk : PUnit → Prog (TpuEff nD τ sig (Elt F) Λ₀ .tc) α} (h : WS m c k f R ⊢ run c (kk ⟨⟩) Q) :
    WS m c (k + 1) f R ⊢ run c (.op (.waitDma2 ((cc0_scratch5.slice (Rect.unit (s := S16) o1 S1.size i1)).squeeze S_ squeezes_S1_S_).sem src
      (xbM.slice (Rect.unit (s := S4096x256) o4 S256x256.size i4) (fun _ => rfl)) hsrc hdst) kk) Q := by
  have ep : (c.val + i.val + 1) % 16 = (peer c (15 - k)).val := by
    show _ = (c.val + (15 - k)) % 16; congr 1; omega
  rw [ep] at h1 h4
  subst h1 h4
  have hne : peer c (15 - k) ≠ c := peer_ne c (by omega) (by omega)
  have hs := wait_one (m := m) c (.snd (peer c (15 - k))) (by simp) (single_snd hne) (O := oweA c 4) (above_A c 4 0 le_rfl (by omega))
    (w := .waitDma2 (sndS (peer c (15 - k))) src (xRow (peer c (15 - k))) hsrc hdst) (wpE_waitDma2_eq 𝒱₀ (c : Thread nD τ) none Set.univ)
    (R := iprop(oPts c f ∗ left (depL c) k ∗ done (depD m c) (k + 1) ∗ R)) (kk := kk) (by
      refine BIBase.Entails.trans ?_ h
      unfold WS; rw [done_put (depD m c) (show k < 15 by omega)]
      iintro ⟨Hc, HO, Hp, Ho, HL, HD, HR⟩
      isplitl [Hc]; · iexact Hc
      isplitl [HO]; · iexact HO
      isplitl [Ho]; · iexact Ho
      isplitl [HL]; · iexact HL
      isplitl [Hp HD]
      · isplitl [Hp]; · unfold depD; iexact Hp
        iexact HD
      iexact HR)
  refine BIBase.Entails.trans ?_ hs
  unfold WS; rw [left_succ]; unfold depL sndD
  iintro ⟨Hc, HO, Ho, ⟨Hi, HL⟩, HD, HR⟩
  isplitl [Hc]; · iexact Hc
  isplitl [HO]; · iexact HO
  isplitl [Hi]; · iexact Hi
  isplitl [Ho]; · iexact Ho
  isplitl [HL]; · iexact HL
  isplitl [HD]; · iexact HD
  iexact HR

end Cert.KernelIdealProof

end
-- ==== Proof.Exchange.lean ====
/-
# The exchange of the maximum, and the buffers used whole

In round `r` a device writes its maximum to its place for the round, sends it to its partner, waits for the
departure and for the arrival, and reads what arrived. The theorems take the round's number as a variable.
-/
module

public import proofs.«01_k».proof.Proof.Phases

@[expose] public section

set_option maxRecDepth 20000

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable {α : Type}
variable {Q : α → sProp (MT nD τ sig Unit (Elt F) ℕ UU ℕ)} {R : sProp (MT nD τ sig Unit (Elt F) ℕ UU ℕ)}

/-- What a device holds for round `r`: before it; once its maximum is written; once it is sent; once it has left;
    after the round. -/
def exchL (c : Dev nD) (r : Fin 4) : sProp 𝕄 :=
  iprop((∃ f, sPts c r f) ∗ (∃ f, rPts (mate c r) r f)
    ∗ dutyTok ER (cell c (.asn r)) 0 (0 : Fin 16) ∗ dutyTok ER (cell (mate c r) (.arv r)) 0 (0 : Fin 16)
    ∗ atPos ER (cell c (.asn r)) 0 (∅ : Finset (Fin 16)) 0
    ∗ atPos ER (cell c (.arv r)) 0 (∅ : Finset (Fin 16)) 0 ∗ cred (tallyAt (cell c (.arv r)) () M))
def exchW (c : Dev nD) (r : Fin 4) : sProp 𝕄 :=
  iprop(sPts c r (sval m c) ∗ (∃ f, rPts (mate c r) r f)
    ∗ dutyTok ER (cell c (.asn r)) 0 (0 : Fin 16) ∗ dutyTok ER (cell (mate c r) (.arv r)) 0 (0 : Fin 16)
    ∗ atPos ER (cell c (.asn r)) 0 (∅ : Finset (Fin 16)) 0
    ∗ atPos ER (cell c (.arv r)) 0 (∅ : Finset (Fin 16)) 0 ∗ cred (tallyAt (cell c (.arv r)) () M))
def exchS (c : Dev nD) (r : Fin 4) : sProp 𝕄 :=
  iprop((atPos ER (cell c (.asn r)) 0 (∅ : Finset (Fin 16)) 0 ∗ cred (tallyAt (cell c (.asn r)) () M))
    ∗ atPos ER (cell c (.arv r)) 0 (∅ : Finset (Fin 16)) 0 ∗ cred (tallyAt (cell c (.arv r)) () M))
def exchA (c : Dev nD) (r : Fin 4) : sProp 𝕄 :=
  iprop((atPos ER (cell c (.arv r)) 0 (∅ : Finset (Fin 16)) 0 ∗ cred (tallyAt (cell c (.arv r)) () M))
    ∗ semVal (cell c (.asn r)) 0 ∗ sPts c r (sval m c))
def exchD (c : Dev nD) (r : Fin 4) : sProp 𝕄 :=
  iprop(rPts c r (rval m c) ∗ semVal (cell c (.arv r)) 0 ∗ semVal (cell c (.asn r)) 0 ∗ sPts c r (sval m c))

/-- Device `c` owing `O`, with the result at `f` and `P` at hand. -/
abbrev XS (c : Dev nD) (O : CellTallies nD τ sig Unit) (f : (cc0_stg2_0 : Ref sig .tc).ty.Contents (Elt F))
    (P R : sProp (MT nD τ sig Unit (Elt F) ℕ UU ℕ)) : sProp 𝕄 :=
  iprop(ctx m ∗ owe c O ∗ oPts c f ∗ P ∗ R)

variable {f : (cc0_stg2_0 : Ref sig .tc).ty.Contents (Elt F)}

theorem xs_swap (c : Dev nD) {O : CellTallies nD τ sig Unit} {P P' R R' : sProp (MT nD τ sig Unit (Elt F) ℕ UU ℕ)}
    (hP : iprop(P ∗ R) ⊢ iprop(P' ∗ R')) : XS m c O f P R ⊢ XS m c O f P' R' := by
  iintro ⟨Hc, HO, Ho, HP⟩
  isplitl [Hc]; · iexact Hc
  isplitl [HO]; · iexact HO
  isplitl [Ho]; · iexact Ho
  iapply hP; iexact HP

theorem am_sub (r : Fin 4) : asM.view.setOn (amR r).toLoadRect.set ⊆ (sSlot r).view.set := by
  intro i hi
  rw [sSlot_set]
  obtain ⟨y, hy, rfl⟩ := Finset.mem_map.mp hi
  exact hy
theorem am_access (r : Fin 4) : (asM.access (amR r)).setOn Finset.univ ⊆ (sSlot r).view.set := by
  rw [sSlot_set]; exact (View.set_slice_whole _ _).le

/-- A load of the place for round `r`, whatever it holds. -/
theorem x_load (c : Dev nD) (r : Fin 4) {O : CellTallies nD τ sig Unit} {o : Fin 3 → ℕ} (ho : o = ![r.val, 0, 0])
    {io : ∀ a, o a + S1x8x128.size a ≤ S4x8x128.size a} {hl} {kk : Vec F S1x8x128 .f32 → Prog (TpuEff nD τ sig (Elt F) Λ₀ .tc) α}
    (h : ∀ v, XS m c O f (exchL c r) R ⊢ run c (kk v) Q) :
    XS m c O f (exchL c r) R ⊢ run c (.op (.load asM (Rect.unit (s := S4x8x128) o S1x8x128.size io).toLoadRect hl) kk) Q := by
  subst ho
  have h' := fun v => h v
  unfold XS exchL at h' ⊢
  iintro ⟨Hc, HO, Ho, ⟨⟨%g, Hs⟩, HP⟩, HR⟩
  iapply (wp_load 𝒱₀ (c : Thread nD τ) none Set.univ (m := asM) (f := g) (am_sub r)) $$ Hs; iintro Hs
  iapply (h' _)
  isplitl [Hc]; · iexact Hc
  isplitl [HO]; · iexact HO
  isplitl [Ho]; · iexact Ho
  isplitl [Hs HP]
  · isplitl [Hs]; · iexists g; iexact Hs
    iexact HP
  iexact HR

theorem stored (c : Dev nD) (r : Fin 4) (g : Buf (Elt F) ((sSlot r).view.loc (c : Thread nD τ))) {w : Vec F S1x8x128 .f32} (hw : ∀ y, w y = amax m r.val c) :
    sPts c r ((asM.access (amR r)).write (Elt F) g w Finset.univ) ⊢ sPts c r (sval m c) := by
  refine Entails.of_eq (pointsTo_congr fun i hi => ?_)
  rw [sSlot_set, ← show (asM.access (amR r)).set = (amR r).set from View.set_slice_whole _ _] at hi
  obtain ⟨y, -, rfl⟩ := Finset.mem_map.mp hi
  refine (View.write_emb_of_mem _ _ (Finset.mem_univ y)).trans ((hw y).trans ?_)
  have e : (((asM.access (amR r)).emb y) 0 : ℕ) = r.val := by
    have h0 : (y 0).val < 1 := (y 0).isLt
    show r.val + 1 * (y 0).val = _; omega
  show amax m r.val c = amax m (((asM.access (amR r)).emb y) 0 : ℕ) c
  rw [e]

/-- A store of the maximum to it. -/
theorem x_store (c : Dev nD) (r : Fin 4) {O : CellTallies nD τ sig Unit} {o : Fin 3 → ℕ} (ho : o = ![r.val, 0, 0])
    {io : ∀ a, o a + S1x8x128.size a ≤ S4x8x128.size a} {w : Vec F S1x8x128 .f32} (hw : ∀ y, w y = amax m r.val c) {hx} {hm}
    {kk : PUnit → Prog (TpuEff nD τ sig (Elt F) Λ₀ .tc) α} (h : XS m c O f (exchW m c r) R ⊢ run c (kk ⟨⟩) Q) :
    XS m c O f (exchL c r) R ⊢ run c (.op (.store asM (Rect.unit (s := S4x8x128) o S1x8x128.size io) w Finset.univ hx hm) kk) Q := by
  subst ho
  unfold XS exchW at h; unfold XS exchL
  iintro ⟨Hc, HO, Ho, ⟨⟨%g, Hs⟩, HP⟩, HR⟩
  iapply (wp_store 𝒱₀ (c : Thread nD τ) none Set.univ (m := asM) (r := amR r) (Mk := Finset.univ) (f := g) (am_access r)) $$ Hs; iintro Hs
  iapply h
  isplitl [Hc]; · iexact Hc
  isplitl [HO]; · iexact HO
  isplitl [Ho]; · iexact Ho
  isplitl [Hs HP]
  · isplitl [Hs]; · iapply (stored m c r g hw); iexact Hs
    iexact HP
  iexact HR

theorem landed_max (c : Dev nD) (r : Fin 4) (g : Buf (Elt F) ((rSlot r).view.loc ((mate c r : Dev nD) : Thread nD τ))) :
    rPts (mate c r) r ((rSlot r).view.write (Elt F) g ((sSlot r).view.read (Elt F) (sval m c)) Finset.univ) ⊢ rPts (mate c r) r (rval m (mate c r)) := by
  refine Entails.of_eq (pointsTo_congr fun i hi => ?_)
  obtain ⟨y, -, rfl⟩ := Finset.mem_map.mp hi
  refine (View.write_emb_of_mem _ _ (Finset.mem_univ y)).trans ?_
  have e : (((rSlot r).view.emb y) 0 : ℕ) = r.val := by
    rw [rSlot_emb]; show r.val + 1 * 0 = _; omega
  have e' : (((sSlot r).view.emb y) 0 : ℕ) = r.val := by
    rw [sSlot_emb]; show r.val + 1 * 0 = _; omega
  have er : (⟨(((rSlot r).view.emb y) 0).val, (((rSlot r).view.emb y) 0).isLt⟩ : Fin 4) = r := Fin.ext e
  show amax m (((sSlot r).view.emb y) 0 : ℕ) c = amax m (((rSlot r).view.emb y) 0 : ℕ) (mate (mate c r) _)
  rw [er, e, e', mate_mate]

theorem x_send (c : Dev nD) (r : Fin 4) (k : ℕ) (hrk : r.val + k = 3) {n : Dev nD} (hn : n = mate c r)
    {o1 o2 : Fin 1 → ℕ} {o3 o4 : Fin 3 → ℕ} (h1 : o1 = ![r.val]) (h2 : o2 = ![r.val]) (h3 : o3 = ![r.val, 0, 0]) (h4 : o4 = ![r.val, 0, 0])
    {i1 : ∀ a, o1 a + S1.size a ≤ S4.size a} {i2 : ∀ a, o2 a + S1.size a ≤ S4.size a}
    {i3 : ∀ a, o3 a + S1x8x128.size a ≤ S4x8x128.size a} {i4 : ∀ a, o4 a + S1x8x128.size a ≤ S4x8x128.size a}
    {hsc} {hsrc} {hdst} {hsem}
    {kk : PUnit → Prog (TpuEff nD τ sig (Elt F) Λ₀ .tc) α} (h : XS m c (oweA c k) f (exchS c r) R ⊢ run c (kk ⟨⟩) Q) :
    XS m c (oweA c (k + 1)) f (exchW m c r) R ⊢ run c (.op (.enqueueDma
      ((asM.slice (Rect.unit (s := S4x8x128) o3 S1x8x128.size i3) (fun _ => rfl)).squeeze S8x128 squeezes_S1x8x128_S8x128)
      (.remote (n : Thread nD τ) ((arM.slice (Rect.unit (s := S4x8x128) o4 S1x8x128.size i4) (fun _ => rfl)).squeeze S8x128 squeezes_S1x8x128_S8x128)
        (.dma ((cc0_scratch7.slice (Rect.unit (s := S4) o1 S1.size i1)).squeeze S_ squeezes_S1_S_).sem) hsc)
      (.dma ((cc0_scratch8.slice (Rect.unit (s := S4) o2 S1.size i2)).squeeze S_ squeezes_S1_S_).sem) hsrc hdst hsem) kk) Q := by
  subst hn h1 h2 h3 h4
  have er : Fin.ofNat 4 (3 - k) = r := Fin.ext (by show (3 - k) % 4 = _; omega)
  have hO := oweA_succ c k
  rw [er] at hO
  have hs := send_step (m := m) c (mate c r) (.asn r) (.arv r) rfl rfl (by simp) (by simp)
    (src := sSlot r) (dst := rSlot r) (hsc := hsc) (hsrc := hsrc) (hdst := hdst) (hsem := hsem)
    M rfl rfl rfl hO (sval m c) .rfl (fun g => landed_max m c r g)
    (R := iprop((atPos ER (cell c (.asn r)) 0 (∅ : Finset (Fin 16)) 0
      ∗ atPos ER (cell c (.arv r)) 0 (∅ : Finset (Fin 16)) 0 ∗ cred (tallyAt (cell c (.arv r)) () M)) ∗ oPts c f ∗ R)) (kk := kk) (by
      refine BIBase.Entails.trans ?_ h
      unfold XS exchS
      iintro ⟨Hc, HO, Hcr, ⟨Ha, Hb⟩, Ho, HR⟩
      isplitl [Hc]; · iexact Hc
      isplitl [HO]; · iexact HO
      isplitl [Ho]; · iexact Ho
      isplitl [Hcr Ha Hb]
      · isplitl [Ha Hcr]
        · isplitl [Ha]; · iexact Ha
          iexact Hcr
        iexact Hb
      iexact HR)
  refine BIBase.Entails.trans ?_ hs
  unfold XS exchW
  iintro ⟨Hc, HO, Ho, ⟨Hs, Hr, Ht, Ht', Hp⟩, HR⟩
  isplitl [Hc]; · iexact Hc
  isplitl [HO]; · iexact HO
  isplitl [Hs Hr Ht Ht']
  · isplitl [Hs]; · iexact Hs
    isplitl [Hr]; · iexact Hr
    isplitl [Ht]; · iexact Ht
    iexact Ht'
  isplitl [Hp]; · iexact Hp
  isplitl [Ho]; · iexact Ho
  iexact HR

theorem x_left (c : Dev nD) (r : Fin 4) (k : ℕ) (hrk : r.val + k = 3) {o1 : Fin 1 → ℕ} {o3 : Fin 3 → ℕ} (h1 : o1 = ![r.val]) (h3 : o3 = ![r.val, 0, 0])
    {i1 : ∀ a, o1 a + S1.size a ≤ S4.size a} {i3 : ∀ a, o3 a + S1x8x128.size a ≤ S4x8x128.size a}
    {sp : Space} {src : Memref sig .tc sp S8x128 .f32} {hsrc} {hdst}
    {kk : PUnit → Prog (TpuEff nD τ sig (Elt F) Λ₀ .tc) α} (h : XS m c (oweA c k) f (exchA m c r) R ⊢ run c (kk ⟨⟩) Q) :
    XS m c (oweA c k) f (exchS c r) R ⊢ run c (.op (.waitDma2 ((cc0_scratch7.slice (Rect.unit (s := S4) o1 S1.size i1)).squeeze S_ squeezes_S1_S_).sem src
      ((asM.slice (Rect.unit (s := S4x8x128) o3 S1x8x128.size i3) (fun _ => rfl)).squeeze S8x128 squeezes_S1x8x128_S8x128) hsrc hdst) kk) Q := by
  subst h1 h3
  have hs := wait_one (m := m) c (.asn r) (by simp) rfl (O := oweA c k) (above_A c k 0 (by omega) (by omega))
    (w := .waitDma2 (asnS r) src (sSlot r) hsrc hdst) (wpE_waitDma2_eq 𝒱₀ (c : Thread nD τ) none Set.univ)
    (R := iprop((atPos ER (cell c (.arv r)) 0 (∅ : Finset (Fin 16)) 0 ∗ cred (tallyAt (cell c (.arv r)) () M)) ∗ oPts c f ∗ R)) (kk := kk) (by
      refine BIBase.Entails.trans ?_ h
      unfold XS exchA
      iintro ⟨Hc, HO, Hp, Ha, Ho, HR⟩
      isplitl [Hc]; · iexact Hc
      isplitl [HO]; · iexact HO
      isplitl [Ho]; · iexact Ho
      isplitl [Hp Ha]
      · isplitl [Ha]; · iexact Ha
        iexact Hp
      iexact HR)
  refine BIBase.Entails.trans ?_ hs
  unfold XS exchS
  iintro ⟨Hc, HO, Ho, ⟨Ha, Hb⟩, HR⟩
  isplitl [Hc]; · iexact Hc
  isplitl [HO]; · iexact HO
  isplitl [Ha]; · iexact Ha
  isplitl [Hb]; · iexact Hb
  isplitl [Ho]; · iexact Ho
  iexact HR

theorem x_arrived (c : Dev nD) (r : Fin 4) (k : ℕ) (hrk : r.val + k = 3) {o1 : Fin 1 → ℕ} {o3 : Fin 3 → ℕ} (h1 : o1 = ![r.val]) (h3 : o3 = ![r.val, 0, 0])
    {i1 : ∀ a, o1 a + S1.size a ≤ S4.size a} {i3 : ∀ a, o3 a + S1x8x128.size a ≤ S4x8x128.size a}
    {sp : Space} {src : Memref sig .tc sp S8x128 .f32} {hsrc} {hdst}
    {kk : PUnit → Prog (TpuEff nD τ sig (Elt F) Λ₀ .tc) α} (h : XS m c (oweA c k) f (exchD m c r) R ⊢ run c (kk ⟨⟩) Q) :
    XS m c (oweA c k) f (exchA m c r) R ⊢ run c (.op (.waitDma2 ((cc0_scratch8.slice (Rect.unit (s := S4) o1 S1.size i1)).squeeze S_ squeezes_S1_S_).sem src
      ((arM.slice (Rect.unit (s := S4x8x128) o3 S1x8x128.size i3) (fun _ => rfl)).squeeze S8x128 squeezes_S1x8x128_S8x128) hsrc hdst) kk) Q := by
  subst h1 h3
  have hs := wait_one (m := m) c (.arv r) (by simp) rfl (O := oweA c k) (above_A c k (3 + r.val) (by omega) (by omega))
    (w := .waitDma2 (arvS r) src (rSlot r) hsrc hdst) (wpE_waitDma2_eq 𝒱₀ (c : Thread nD τ) none Set.univ)
    (R := iprop((semVal (cell c (.asn r)) 0 ∗ sPts c r (sval m c)) ∗ oPts c f ∗ R)) (kk := kk) (by
      refine BIBase.Entails.trans ?_ h
      unfold XS exchD
      rw [show payOf m c (.arv r) 0 = rPts c r (rval m c) from rfl]
      iintro ⟨Hc, HO, ⟨Hz, Hp⟩, Ha, Ho, HR⟩
      isplitl [Hc]; · iexact Hc
      isplitl [HO]; · iexact HO
      isplitl [Ho]; · iexact Ho
      isplitl [Hz Hp Ha]
      · isplitl [Hp]; · iexact Hp
        isplitl [Hz]; · iexact Hz
        iexact Ha
      iexact HR)
  refine BIBase.Entails.trans ?_ hs
  unfold XS exchA
  iintro ⟨Hc, HO, Ho, ⟨Ha, Hb⟩, HR⟩
  isplitl [Hc]; · iexact Hc
  isplitl [HO]; · iexact HO
  isplitl [Ha]; · iexact Ha
  isplitl [Hb]; · iexact Hb
  isplitl [Ho]; · iexact Ho
  iexact HR

abbrev oneR (r : Fin 4) (io : ∀ a, (![r.val, 0, 0] : Fin 3 → ℕ) a + S1x1x1.size a ≤ S4x8x128.size a) : Rect S4x8x128 :=
  Rect.unit (s := S4x8x128) ![r.val, 0, 0] S1x1x1.size io
theorem one_sub (r : Fin 4) (io) : arM.view.setOn (oneR r io).toLoadRect.set ⊆ (rSlot r).view.set := by
  intro i hi
  rw [rSlot_set]
  obtain ⟨y, hy, rfl⟩ := Finset.mem_map.mp hi
  have hy' := Rect.mem_set_unit.mp (show y ∈ (oneR r io).set from hy)
  refine Rect.mem_set_unit.mpr fun a => ⟨(hy' a).1, lt_of_lt_of_le (hy' a).2 (Nat.add_le_add_left ?_ _)⟩
  revert a; decide
theorem one_read (c : Dev nD) (r : Fin 4) (io) :
    arM.view.readAt (Elt F) (oneR r io).toLoadRect (rval m c) = fun _ => amax m r.val (mate c r) := by
  funext y
  have h0 : (y 0).val < 1 := (y 0).isLt
  have e : (((oneR r io).emb y) 0 : ℕ) = r.val := by
    show r.val + 1 * (y 0).val = _; omega
  have er : (⟨(((oneR r io).emb y) 0).val, (((oneR r io).emb y) 0).isLt⟩ : Fin 4) = r := Fin.ext e
  exact congrArg₂ (fun a b => amax m a (mate c b)) e er

/-- A load of the maximum received. -/
theorem x_read (c : Dev nD) (r : Fin 4) {O : CellTallies nD τ sig Unit} {o : Fin 3 → ℕ} (ho : o = ![r.val, 0, 0])
    {io : ∀ a, o a + S1x1x1.size a ≤ S4x8x128.size a} {hl} {kk : Vec F S1x1x1 .f32 → Prog (TpuEff nD τ sig (Elt F) Λ₀ .tc) α}
    (h : XS m c O f (exchD m c r) R ⊢ run c (kk (fun _ => amax m r.val (mate c r))) Q) :
    XS m c O f (exchD m c r) R ⊢ run c (.op (.load arM (Rect.unit (s := S4x8x128) o S1x1x1.size io).toLoadRect hl) kk) Q := by
  subst ho
  unfold XS exchD at h ⊢
  iintro ⟨Hc, HO, Ho, ⟨Hs, HP⟩, HR⟩
  iapply (wp_load 𝒱₀ (c : Thread nD τ) none Set.univ (m := arM) (f := rval m c) (one_sub r io)) $$ Hs; iintro Hs
  rw [one_read]
  iapply h
  isplitl [Hc]; · iexact Hc
  isplitl [HO]; · iexact HO
  isplitl [Ho]; · iexact Ho
  isplitl [Hs HP]
  · isplitl [Hs]; · iexact Hs
    iexact HP
  iexact HR

end Cert.KernelIdealProof

end
-- ==== Proof.Whole.lean ====
/-
# The buffers used whole, and the passages between the phases
-/
module

public import proofs.«01_k».proof.Proof.Exchange

@[expose] public section

set_option maxRecDepth 20000

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable {α : Type}
variable {Q : α → sProp (MT nD τ sig Unit (Elt F) ℕ UU ℕ)} {R : sProp (MT nD τ sig Unit (Elt F) ℕ UU ℕ)}

/-! ## The barrier -/

/-- The wait for the fifteen signals: each hands over the place on its sender for this device's block, and the
    places for its maximum. -/
theorem bs_wait (c : Dev nD) {kk : PUnit → Prog (TpuEff nD τ sig (Elt F) Λ₀ .tc) α}
    (h : iprop(ctx m ∗ owe c (oweR c 15) ∗ (semVal (cell c .bar) 0 ∗ bigSep (Finset.univ.erase c) (barPay (F := F) c)) ∗ R) ⊢ run c (kk ⟨⟩) Q) :
    BS m c 0 iprop((atPos ER (cell c .bar) 0 (∅ : Finset (Fin 16)) 0 ∗ cred (tallyAt (cell c .bar) () 15)) ∗ R)
      ⊢ run c (.op (.semWait barS (15#32).toInt) kk) Q := by
  have hs := wait_step (m := m) c .bar (by simp) (A := 15) (expect_bar m c) (O := oweR c 15) (above_R c 15 1 (by omega))
    (w := .semWait barS (15#32).toInt) (wpE_semWait_eq 𝒱₀ (c : Thread nD τ) none Set.univ) (R := R) (kk := kk) h
  refine BIBase.Entails.trans ?_ hs
  unfold BS; rw [left_none, oweB_zero]
  iintro ⟨Hc, HO, -, Hb, HR⟩
  isplitl [Hc]; · iexact Hc
  isplitl [HO]; · iexact HO
  isplitl [Hb]; · iexact Hb
  iexact HR

/-! ## Copying `x` and `w` -/

abbrev xPtsAll (c : Dev nD) (f : (cc0_stg0_0 : Ref sig .tc).ty.Contents (Elt F)) : sProp 𝕄 :=
  xM.view.loc (c : Thread nD τ) ↦[Finset.univ]{fullShare} f
abbrev wPtsAll (c : Dev nD) (f : (cc0_stg1_0 : Ref sig .tc).ty.Contents (Elt F)) : sProp 𝕄 :=
  wM.view.loc (c : Thread nD τ) ↦[Finset.univ]{fullShare} f
abbrev xbPts (c : Dev nD) (f : (cc0_scratch0 : Ref sig .tc).ty.Contents (Elt F)) : sProp 𝕄 :=
  xbM.view.loc (c : Thread nD τ) ↦[Finset.univ]{fullShare} f

theorem fill_x (c : Dev nD) {A : sProp (MT nD τ sig Unit (Elt F) ℕ UU ℕ)} {hl hl'} {hx hm}
    {kk : PUnit → Prog (TpuEff nD τ sig (Elt F) Λ₀ .tc) α}
    (h : iprop(A ∗ xPtsAll c (xstg m c) ∗ xbPts c (xval m c) ∗ R) ⊢ run c (kk ⟨⟩) Q) :
    iprop(A ∗ xPtsAll c (xstg m c) ∗ (∃ f, xbPts c f) ∗ R)
      ⊢ run c (.op (.load xM (Rect.unit (s := S4096x256) ![0, 0] S4096x256.size inb_S4096x256_S4096x256_0_0).toLoadRect hl) fun v =>
        .op (.load xbM (Rect.unit (s := S4096x256) ![0, 0] S4096x256.size inb_S4096x256_S4096x256_0_0).toLoadRect hl') fun _ =>
        .op (.store xbM (Rect.unit (s := S4096x256) ![0, 0] S4096x256.size inb_S4096x256_S4096x256_0_0) (k0_pay2 v) Finset.univ hx hm) kk) Q := by
  iintro ⟨Ha, Hx, ⟨%f, Hb⟩, HR⟩
  iapply (wp_load 𝒱₀ (c : Thread nD τ) none Set.univ (m := xM) (f := xstg m c) (Finset.subset_univ _)) $$ Hx; iintro Hx
  rw [show xM.view.readAt (Elt F) (Rect.unit (s := S4096x256) ![0, 0] S4096x256.size inb_S4096x256_S4096x256_0_0).toLoadRect (xstg m c) = xstg m c
    from Memref.readAt_unit_zero (Elt F) cc0_stg0_0 zero2 _ _]
  iapply (wp_load 𝒱₀ (c : Thread nD τ) none Set.univ (m := xbM) (f := f) (Finset.subset_univ _)) $$ Hb; iintro Hb
  iapply (wp_store 𝒱₀ (c : Thread nD τ) none Set.univ (m := xbM) (r := Rect.unit (s := S4096x256) ![0, 0] S4096x256.size inb_S4096x256_S4096x256_0_0)
    (Mk := Finset.univ) (f := f) (Finset.subset_univ _)) $$ Hb; iintro Hb
  rw [show (xbM.access (Rect.unit (s := S4096x256) ![0, 0] S4096x256.size inb_S4096x256_S4096x256_0_0)).write (Elt F) f (k0_pay2 (xstg m c)) Finset.univ = xval m c
    from Memref.write_access_unit_zero_univ (Elt F) cc0_scratch0 zero2 _ f _]
  iapply h
  isplitl [Ha]; · iexact Ha
  isplitl [Hx]; · iexact Hx
  isplitl [Hb]; · iexact Hb
  iexact HR

theorem fill_w (c : Dev nD) {A : sProp (MT nD τ sig Unit (Elt F) ℕ UU ℕ)} {hl hl'} {hx hm}
    {kk : PUnit → Prog (TpuEff nD τ sig (Elt F) Λ₀ .tc) α}
    (h : iprop(A ∗ wPtsAll c (wstg m c) ∗ wbPts c (wval m c) ∗ R) ⊢ run c (kk ⟨⟩) Q) :
    iprop(A ∗ wPtsAll c (wstg m c) ∗ (∃ f, wbPts c f) ∗ R)
      ⊢ run c (.op (.load wM (Rect.unit (s := S4096x2048) ![0, 0] S4096x2048.size inb_S4096x2048_S4096x2048_0_0).toLoadRect hl) fun v =>
        .op (.load wbM (Rect.unit (s := S4096x2048) ![0, 0] S4096x2048.size inb_S4096x2048_S4096x2048_0_0).toLoadRect hl') fun _ =>
        .op (.store wbM (Rect.unit (s := S4096x2048) ![0, 0] S4096x2048.size inb_S4096x2048_S4096x2048_0_0) (k0_pay3 v) Finset.univ hx hm) kk) Q := by
  iintro ⟨Ha, Hx, ⟨%f, Hb⟩, HR⟩
  iapply (wp_load 𝒱₀ (c : Thread nD τ) none Set.univ (m := wM) (f := wstg m c) (Finset.subset_univ _)) $$ Hx; iintro Hx
  rw [show wM.view.readAt (Elt F) (Rect.unit (s := S4096x2048) ![0, 0] S4096x2048.size inb_S4096x2048_S4096x2048_0_0).toLoadRect (wstg m c) = wstg m c
    from Memref.readAt_unit_zero (Elt F) cc0_stg1_0 zero2 _ _]
  iapply (wp_load 𝒱₀ (c : Thread nD τ) none Set.univ (m := wbM) (f := f) (Finset.subset_univ _)) $$ Hb; iintro Hb
  iapply (wp_store 𝒱₀ (c : Thread nD τ) none Set.univ (m := wbM) (r := Rect.unit (s := S4096x2048) ![0, 0] S4096x2048.size inb_S4096x2048_S4096x2048_0_0)
    (Mk := Finset.univ) (f := f) (Finset.subset_univ _)) $$ Hb; iintro Hb
  rw [show (wbM.access (Rect.unit (s := S4096x2048) ![0, 0] S4096x2048.size inb_S4096x2048_S4096x2048_0_0)).write (Elt F) f (k0_pay3 (wstg m c)) Finset.univ = wval m c
    from Memref.write_access_unit_zero_univ (Elt F) cc0_scratch1 zero2 _ f _]
  iapply h
  isplitl [Ha]; · iexact Ha
  isplitl [Hx]; · iexact Hx
  isplitl [Hb]; · iexact Hb
  iexact HR

/-- The device's own product, written to the result. -/
theorem own_product (c : Dev nD) {A : sProp (MT nD τ sig Unit (Elt F) ℕ UU ℕ)} {o5 o6 : Fin 2 → ℕ} (h5 : o5 = ![256 * c.val, 0]) (h6 : o6 = ![256 * c.val, 0])
    {i5 : ∀ a, o5 a + S256x256.size a ≤ S4096x256.size a} {i6 : ∀ a, o6 a + S256x2048.size a ≤ S4096x2048.size a} {hl hl' hl''} {hx hm}
    {kk : PUnit → Prog (TpuEff nD τ sig (Elt F) Λ₀ .tc) α}
    (h : iprop(A ∗ xPts c c (xval m c) ∗ wbPts c (wval m c) ∗ oPts c (acc m c 0) ∗ R) ⊢ run c (kk ⟨⟩) Q) :
    iprop(A ∗ xPts c c (xval m c) ∗ wbPts c (wval m c) ∗ (∃ f, oPts c f) ∗ R)
      ⊢ run c (.op (.load xbM (Rect.unit (s := S4096x256) o5 S256x256.size i5).toLoadRect hl) fun v =>
        .op (.load wbM (Rect.unit (s := S4096x2048) o6 S256x2048.size i6).toLoadRect hl') fun u =>
        .op (.load oM (Rect.unit (s := S256x2048) ![0, 0] S256x2048.size inb_S256x2048_S256x2048_0_0).toLoadRect hl'') fun _ =>
        .op (.store oM (Rect.unit (s := S256x2048) ![0, 0] S256x2048.size inb_S256x2048_S256x2048_0_0) (k0_pay4 v u) Finset.univ hx hm) kk) Q := by
  subst h5 h6
  have hsub : xbM.view.setOn (rowR c).toLoadRect.set ⊆ (xRow c).view.set := by
    intro i hi
    rw [xRow_set]
    obtain ⟨y, hy, rfl⟩ := Finset.mem_map.mp hi
    exact hy
  iintro ⟨Ha, Hx, Hw, ⟨%f, Ho⟩, HR⟩
  iapply (wp_load 𝒱₀ (c : Thread nD τ) none Set.univ (m := xbM) (f := xval m c) hsub) $$ Hx; iintro Hx
  iapply (wp_load 𝒱₀ (c : Thread nD τ) none Set.univ (m := wbM) (f := wval m c) (S := Finset.univ) (Finset.subset_univ _)) $$ Hw; iintro Hw
  iapply (wp_load 𝒱₀ (c : Thread nD τ) none Set.univ (m := oM) (f := f) (Finset.subset_univ _)) $$ Ho; iintro Ho
  iapply (wp_store 𝒱₀ (c : Thread nD τ) none Set.univ (m := oM) (r := Rect.unit (s := S256x2048) ![0, 0] S256x2048.size inb_S256x2048_S256x2048_0_0)
    (Mk := Finset.univ) (f := f) (Finset.subset_univ _)) $$ Ho; iintro Ho
  rw [write_out, show k0_pay4 (xbM.view.readAt (Elt F) (rowR c).toLoadRect (xval m c)) (wbM.view.readAt (Elt F) (wrowR c).toLoadRect (wval m c)) = acc m c 0 from rfl]
  iapply h
  isplitl [Ha]; · iexact Ha
  isplitl [Hx]; · iexact Hx
  isplitl [Hw]; · iexact Hw
  isplitl [Ho]; · iexact Ho
  iexact HR

/-! ## Products over the rounds and over the other devices -/

omit [FloatOps F] in
theorem four (Φ : Fin 4 → sProp (MT nD τ sig Unit (Elt F) ℕ UU ℕ)) :
    bigSep (Finset.univ : Finset (Fin 4)) Φ = iprop(Φ 0 ∗ Φ 1 ∗ Φ 2 ∗ Φ 3) := by
  rw [show (Finset.univ : Finset (Fin 4)) = insert 0 (insert 1 (insert 2 {3})) from by decide,
    bigSep_insert (by decide), bigSep_insert (by decide), bigSep_insert (by decide), bigSep_singleton]; rfl

omit [FloatOps F] in
theorem take_out {I : Type} [DecidableEq I] {s : Finset I} {i : I} (h : i ∈ s) (Φ : I → sProp (MT nD τ sig Unit (Elt F) ℕ UU ℕ)) :
    bigSep s Φ = iprop(Φ i ∗ bigSep (s.erase i) Φ) := by
  rw [bigSep_erase h]; rfl

omit [FloatOps F] in
/-- Of a family that is trivial but at `i`, only the member at `i` is left. -/
theorem only_at {s : Finset (Fin 16)} {i : Fin 16} (h : i ∈ s) (Φ : Fin 16 → sProp (MT nD τ sig Unit (Elt F) ℕ UU ℕ)) :
    bigSep s (fun j => if j = i then Φ j else iprop(emp)) = Φ i := by
  refine (bigSep_filter s (· = i) Φ).symm.trans ?_
  rw [Finset.filter_eq', if_pos h, bigSep_singleton]

/-! ## From the barrier to the transfers -/

def tokL (c : Dev nD) (i : ℕ) : sProp 𝕄 :=
  iprop(dutyTok ER (cell c (.snd (peer c (15 - i)))) 0 (0 : Fin 16) ∗ dutyTok ER (cell (peer c (15 - i)) (.rcv c)) 0 (0 : Fin 16))

omit [FloatOps F] in
/-- What the barrier's signals hand over: a place on every other device, and the four partners' places. -/
theorem bar_split (c : Dev nD) : bigSep (Finset.univ.erase c) (barPay (F := F) c)
    = iprop((bigSep (Finset.univ.erase c) fun d : Dev nD => iprop(∃ f, cPts (F := F) d c f))
      ∗ bigSep (Finset.univ : Finset (Fin 4)) fun r => iprop(∃ f, rPts (F := F) (mate c r) r f)) := by
  have h (r : Fin 4) : (bigSep (Finset.univ.erase c) fun d : Fin 16 => if d = mate c r then iprop(∃ f, rPts (F := F) d r f) else iprop(emp))
      = iprop(∃ f, rPts (F := F) (mate c r) r f) :=
    only_at (Finset.mem_erase.mpr ⟨mate_ne c r, Finset.mem_univ _⟩) (fun d : Fin 16 => iprop(∃ f, rPts (F := F) d r f))
  unfold barPay
  simp only [four]
  rw [bigSep_sep' (Finset.univ.erase c), bigSep_sep' (Finset.univ.erase c), bigSep_sep' (Finset.univ.erase c), bigSep_sep' (Finset.univ.erase c),
    h 0, h 1, h 2, h 3]

omit [FloatOps F] in
theorem x_rows (c : Dev nD) (f : (cc0_scratch0 : Ref sig .tc).ty.Contents (Elt F)) :
    xbPts c f = bigSep (Finset.univ : Finset (Fin 16)) fun j => xPts c j f := by
  have h := pointsTo_biUnion (Ix := Unit) (Name := ℕ) (U := UU) (Lvl := ℕ) (ℓ := xbM.view.loc (c : Thread nD τ)) (q := fullShare) (f := f) Finset.univ (fun j => (rowR j).set) rows_disjoint
  rw [rows_cover] at h
  refine h.trans (bigSep_congr fun j _ => ?_)
  rw [← xRow_set]

theorem ss_enter (c : Dev nD) : iprop(ctx m ∗ owe c (oweR c 15) ∗ xbPts c (xval m c)
      ∗ (semVal (cell c .bar) 0 ∗ bigSep (Finset.univ.erase c) (barPay (F := F) c)) ∗ left (tokL c) 15 ∗ R)
    ⊢ SS m c 15 iprop(xPts c c (xval m c) ∗ semVal (cell c .bar) 0
      ∗ (bigSep (Finset.univ : Finset (Fin 4)) fun r => iprop(∃ f, rPts (F := F) (mate c r) r f)) ∗ R) := by
  have e : left (sndL m c) 15 = iprop((left (fun i => xPts c (peer c (15 - i)) (xval m c)) 15)
      ∗ (left (fun i => iprop(∃ f, cPts (F := F) (peer c (15 - i)) c f)) 15) ∗ left (tokL c) 15) := by
    show bigSep (Finset.range 15) (sndL m c) = iprop(bigSep (Finset.range 15) _ ∗ bigSep (Finset.range 15) _ ∗ bigSep (Finset.range 15) _)
    rw [← bigSep_sep' (Finset.range 15), ← bigSep_sep' (Finset.range 15)]
    rfl
  unfold SS
  rw [bar_split, x_rows, e, done_none, take_out (Finset.mem_univ c),
    left_peers c (fun d => xPts c d (xval m c)), left_peers c (fun d => iprop(∃ f, cPts (F := F) d c f))]
  iintro ⟨Hc, HO, ⟨Hx, Hxs⟩, ⟨Hz, Hcs, Hrs⟩, HT, HR⟩
  isplitl [Hc]; · iexact Hc
  isplitl [HO]; · iexact HO
  isplitl [Hxs Hcs HT]
  · isplitl [Hxs]; · iexact Hxs
    isplitl [Hcs]; · iexact Hcs
    iexact HT
  isplitr; · iempintro
  isplitl [Hx]; · iexact Hx
  isplitl [Hz]; · iexact Hz
  isplitl [Hrs]; · iexact Hrs
  iexact HR

/-! ## From the transfers to the received blocks, and on -/

theorem rs_enter (c : Dev nD) {f : (cc0_stg2_0 : Ref sig .tc).ty.Contents (Elt F)} :
    iprop(ctx m ∗ owe c (oweR c 0) ∗ oPts c f ∗ wbPts c (wval m c) ∗ left (rcvL c) 15 ∗ R) ⊢ RS m c 15 f R := by
  unfold RS; rw [oweR_zero, done_none]
  iintro ⟨Hc, HO, Ho, Hw, HL, HR⟩
  isplitl [Hc]; · iexact Hc
  isplitl [HO]; · iexact HO
  isplitl [Ho]; · iexact Ho
  isplitl [Hw]; · iexact Hw
  isplitl [HL]; · iexact HL
  isplitr; · iempintro
  iexact HR

def depA (c : Dev nD) (i : ℕ) : sProp 𝕄 := atPos ER (cell c (.snd (peer c (15 - i)))) 0 (∅ : Finset (Fin 16)) 0

omit [FloatOps F] in
theorem dep_join (c : Dev nD) : left (depL (F := F) c) 15 = iprop(left (depA c) 15 ∗ done (sndD c) 0) := by
  rw [done_all]
  show bigSep (Finset.range 15) (depL c) = iprop(bigSep (Finset.range 15) (depA c) ∗ bigSep (Finset.range 15) (sndD c))
  rw [← bigSep_sep' (Finset.range 15)]
  rfl

theorem ws_enter (c : Dev nD) {f : (cc0_stg2_0 : Ref sig .tc).ty.Contents (Elt F)} :
    RS m c 0 f iprop(left (depA c) 15 ∗ done (sndD c) 0 ∗ R) ⊢ WS m c 15 f iprop(wbPts c (wval m c) ∗ done (rcvD m c) 0 ∗ R) := by
  unfold RS WS; rw [dep_join, done_none, left_none]
  iintro ⟨Hc, HO, Ho, Hw, -, HD, HA, HS, HR⟩
  isplitl [Hc]; · iexact Hc
  isplitl [HO]; · iexact HO
  isplitl [Ho]; · iexact Ho
  isplitl [HA HS]
  · isplitl [HA]; · iexact HA
    iexact HS
  isplitr; · iempintro
  isplitl [Hw]; · iexact Hw
  isplitl [HD]; · iexact HD
  iexact HR

theorem xs_enter (c : Dev nD) {f : (cc0_stg2_0 : Ref sig .tc).ty.Contents (Elt F)} {P : sProp (MT nD τ sig Unit (Elt F) ℕ UU ℕ)} :
    WS m c 0 f iprop(P ∗ R) ⊢ XS m c (oweA c 4) f P iprop(done (depD m c) 0 ∗ R) := by
  unfold WS XS; rw [left_none]
  iintro ⟨Hc, HO, Ho, -, HD, HP, HR⟩
  isplitl [Hc]; · iexact Hc
  isplitl [HO]; · iexact HO
  isplitl [Ho]; · iexact Ho
  isplitl [HP]; · iexact HP
  isplitl [HD]; · iexact HD
  iexact HR

/-! ## The four rounds -/

/-- What a device holds for round `r` before the barrier: all but the partner's place. -/
def amL (c : Dev nD) (r : Fin 4) : sProp 𝕄 :=
  iprop((∃ f, sPts c r f)
    ∗ dutyTok ER (cell c (.asn r)) 0 (0 : Fin 16) ∗ dutyTok ER (cell (mate c r) (.arv r)) 0 (0 : Fin 16)
    ∗ atPos ER (cell c (.asn r)) 0 (∅ : Finset (Fin 16)) 0
    ∗ atPos ER (cell c (.arv r)) 0 (∅ : Finset (Fin 16)) 0 ∗ cred (tallyAt (cell c (.arv r)) () M))

omit [FloatOps F] in
theorem exch_join (c : Dev nD) :
    iprop((bigSep (Finset.univ : Finset (Fin 4)) fun r => iprop(∃ f, rPts (F := F) (mate c r) r f)) ∗ bigSep (Finset.univ : Finset (Fin 4)) (amL (F := F) c))
      ⊢ iprop(exchL (F := F) c 0 ∗ exchL c 1 ∗ exchL c 2 ∗ exchL c 3) := by
  rw [← four (exchL (F := F) c), ← bigSep_sep' (Finset.univ : Finset (Fin 4))]
  have h (r : Fin 4) : iprop((∃ f, rPts (F := F) (mate c r) r f) ∗ amL c r) ⊢ exchL (F := F) c r := by
    unfold amL exchL
    iintro ⟨Hr, Hs, HP⟩
    isplitl [Hs]; · iexact Hs
    isplitl [Hr]; · iexact Hr
    iexact HP
  exact bigSep_mono fun r _ => h r

end Cert.KernelIdealProof

end
-- ==== Proof.Sending.lean ====
/-
# The first parts: the barrier, the transfers, the device's own product

Each part of the kernel takes the state before it to the state after it, for any continuation.
-/
module

public import proofs.«01_k».proof.Proof.Whole

@[expose] public section

set_option maxRecDepth 20000

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable {α : Type}
variable {Q : α → sProp (MT nD τ sig Unit (Elt F) ℕ UU ℕ)} {R : sProp (MT nD τ sig Unit (Elt F) ℕ UU ℕ)}

/-- A part of the kernel applied to the launch's buffers and semaphores. -/
abbrev At {β : Type 1} (p : (a0 : Memref sig .tc .vmem S4096x256 .bf16) → a0.IsWhole → (a1 : Memref sig .tc .vmem S4096x2048 .bf16) → a1.IsWhole
    → (a2 : Memref sig .tc .vmem S256x2048 .f32) → a2.IsWhole → (a3 : Memref sig .tc .vmem S4096x256 .bf16) → a3.IsWhole
    → (a4 : Memref sig .tc .vmem S4096x2048 .bf16) → a4.IsWhole → (a5 : Memref sig .tc .vmem S16x256x256 .bf16) → a5.IsWhole
    → (a6 : Memref sig .tc .vmem S4x8x128 .f32) → a6.IsWhole → (a7 : Memref sig .tc .vmem S4x8x128 .f32) → a7.IsWhole
    → DmaSems sig S16 → DmaSems sig S16 → DmaSems sig S4 → DmaSems sig S4 → β) : β :=
  p xM (Memref.isWhole_whole _) wM (Memref.isWhole_whole _) oM (Memref.isWhole_whole _) xbM (Memref.isWhole_whole _)
    wbM (Memref.isWhole_whole _) cmM (Memref.isWhole_whole _) asM (Memref.isWhole_whole _) arM (Memref.isWhole_whole _)
    cc0_scratch5 cc0_scratch6 cc0_scratch7 cc0_scratch8

/-- The signals to the devices one to five ahead. -/
theorem part1 (c : Dev nD) {kk}
    (h : ∀ w w', BS m c 10 R ⊢ run c (kk ⟨c, w, SemArray.scalar (sig.barrier 0 rfl), w', 16#32⟩) Q) :
    BS m c 15 R
      ⊢ run c (At (k0_part1 (F := F)) >>= kk) Q := by
  rw [k0_part1_eq_skeleton]; unfold At k0_part1_skel
  simp only [run, semSignalWord, semWaitWord, Prog.lift, Prog.bind_op, Prog.bind_ret, Prog.pure_eq_ret, wp_deviceId]
  refine bs_signal m c 0 14 rfl (k0_dev1_eq c) ?_
  refine bs_signal m c 1 13 rfl (k0_dev2_eq c) ?_
  refine bs_signal m c 2 12 rfl (k0_dev3_eq c) ?_
  refine bs_signal m c 3 11 rfl (k0_dev4_eq c) ?_
  refine bs_signal m c 4 10 rfl (k0_dev5_eq c) ?_
  exact h _ _

/-- The signals to the devices six to eleven ahead. -/
theorem part2 (c : Dev nD) {w₁ w₂ w₃ : BitVec 32} {kk}
    (h : ∀ w w', BS m c 4 R ⊢ run c (kk ⟨w, w'⟩) Q) :
    BS m c 10 R
      ⊢ run c (At (k0_part2 (F := F)) c w₁ (SemArray.scalar (sig.barrier 0 rfl)) w₂ w₃ >>= kk) Q := by
  rw [k0_part2_eq_skeleton]; unfold At k0_part2_skel
  simp only [run, semSignalWord, semWaitWord, Prog.lift, Prog.bind_op, Prog.bind_ret, Prog.pure_eq_ret, wp_deviceId]
  refine bs_signal m c 5 9 rfl (k0_dev6_eq c) ?_
  refine bs_signal m c 6 8 rfl (k0_dev7_eq c) ?_
  refine bs_signal m c 7 7 rfl (k0_dev8_eq c) ?_
  refine bs_signal m c 8 6 rfl (k0_dev9_eq c) ?_
  refine bs_signal m c 9 5 rfl (k0_dev10_eq c) ?_
  refine bs_signal m c 10 4 rfl (k0_dev11_eq c) ?_
  exact h _ _

/-- The last four signals, the wait for the fifteen signals, and the copy of `x`. -/
theorem part3 (c : Dev nD) {w₁ w₂ w₃ : BitVec 32} {kk}
    (h : SS m c 15 iprop(xPts c c (xval m c) ∗ semVal (cell c .bar) 0
        ∗ (bigSep (Finset.univ : Finset (Fin 4)) fun r => iprop(∃ f, rPts (F := F) (mate c r) r f)) ∗ xPtsAll c (xstg m c) ∗ R) ⊢ run c (kk ⟨⟩) Q) :
    BS m c 4 iprop((atPos ER (cell c .bar) 0 (∅ : Finset (Fin 16)) 0 ∗ cred (tallyAt (cell c .bar) () 15)) ∗ xPtsAll c (xstg m c) ∗ (∃ f, xbPts c f) ∗ left (tokL c) 15 ∗ R)
      ⊢ run c (At (k0_part3 (F := F)) c w₁ (SemArray.scalar (sig.barrier 0 rfl)) w₂ w₃ >>= kk) Q := by
  rw [k0_part3_eq_skeleton]; unfold At k0_part3_skel
  simp only [run, semSignalWord, semWaitWord, Prog.lift, Prog.bind_op, Prog.bind_ret, Prog.pure_eq_ret, wp_deviceId]
  refine bs_signal m c 11 3 rfl (k0_dev12_eq c) ?_
  refine bs_signal m c 12 2 rfl (k0_dev13_eq c) ?_
  refine bs_signal m c 13 1 rfl (k0_dev14_eq c) ?_
  refine bs_signal m c 14 0 rfl (k0_dev15_eq c) ?_
  refine bs_wait m c ?_
  refine BIBase.Entails.trans ?_ (fill_x m c (A := iprop(ctx m ∗ owe c (oweR c 15) ∗ (semVal (cell c .bar) 0 ∗ bigSep (Finset.univ.erase c) (barPay (F := F) c)))) (R := iprop(left (tokL c) 15 ∗ R)) ?_)
  · iintro ⟨Hc, HO, Hb, Hx, Hxb, HT⟩
    isplitl [Hc HO Hb]
    · isplitl [Hc]; · iexact Hc
      isplitl [HO]; · iexact HO
      iexact Hb
    isplitl [Hx]; · iexact Hx
    isplitl [Hxb]; · iexact Hxb
    iexact HT
  refine BIBase.Entails.trans ?_ h
  refine BIBase.Entails.trans ?_ (ss_enter m c)
  iintro ⟨⟨Hc, HO, Hb⟩, Hx, Hxb, HT, HR⟩
  isplitl [Hc]; · iexact Hc
  isplitl [HO]; · iexact HO
  isplitl [Hxb]; · iexact Hxb
  isplitl [Hb]; · iexact Hb
  isplitl [HT]; · iexact HT
  isplitl [Hx]; · iexact Hx
  iexact HR

/-- The blocks for the devices one to three ahead. -/
theorem part4 (c : Dev nD) {w₁ : BitVec 32} {kk}
    (h : ∀ w w', SS m c 12 R ⊢ run c (kk ⟨w, w'⟩) Q) :
    SS m c 15 R
      ⊢ run c (At (k0_part4 (F := F)) c w₁ >>= kk) Q := by
  rw [k0_part4_eq_skeleton]; unfold At k0_part4_skel
  simp only [run, semSignalWord, semWaitWord, Prog.lift, Prog.bind_op, Prog.bind_ret, Prog.pure_eq_ret, wp_deviceId]
  refine ss_send m c 0 14 rfl (k0_dev16_eq c) (k0_off1_eq c 0) (k0_off2_eq c) (k0_off3_eq c) (k0_off4_eq c 0) ?_
  refine ss_send m c 1 13 rfl (k0_dev17_eq c) (k0_off1_eq c 1) (k0_off2_eq c) (k0_off3_eq c) (k0_off4_eq c 1) ?_
  refine ss_send m c 2 12 rfl (k0_dev18_eq c) (k0_off1_eq c 2) (k0_off2_eq c) (k0_off3_eq c) (k0_off4_eq c 2) ?_
  exact h _ _

/-- The blocks for the devices four to six ahead. -/
theorem part5 (c : Dev nD) {w₁ w₂ w₃ : BitVec 32} {kk}
    (h : ∀ w, SS m c 9 R ⊢ run c (kk w) Q) :
    SS m c 12 R
      ⊢ run c (At (k0_part5 (F := F)) c w₁ w₂ w₃ >>= kk) Q := by
  rw [k0_part5_eq_skeleton]; unfold At k0_part5_skel
  simp only [run, semSignalWord, semWaitWord, Prog.lift, Prog.bind_op, Prog.bind_ret, Prog.pure_eq_ret, wp_deviceId]
  refine ss_send m c 3 11 rfl (k0_dev19_eq c) (k0_off1_eq c 3) (k0_off2_eq c) (k0_off3_eq c) (k0_off4_eq c 3) ?_
  refine ss_send m c 4 10 rfl (k0_dev20_eq c) (k0_off1_eq c 4) (k0_off2_eq c) (k0_off3_eq c) (k0_off4_eq c 4) ?_
  refine ss_send m c 5 9 rfl (k0_dev21_eq c) (k0_off1_eq c 5) (k0_off2_eq c) (k0_off3_eq c) (k0_off4_eq c 5) ?_
  exact h _

/-- The blocks for the devices seven to nine ahead. -/
theorem part6 (c : Dev nD) {w₁ w₂ : BitVec 32} {kk}
    (h : ∀ w, SS m c 6 R ⊢ run c (kk w) Q) :
    SS m c 9 R
      ⊢ run c (At (k0_part6 (F := F)) c w₁ w₂ >>= kk) Q := by
  rw [k0_part6_eq_skeleton]; unfold At k0_part6_skel
  simp only [run, semSignalWord, semWaitWord, Prog.lift, Prog.bind_op, Prog.bind_ret, Prog.pure_eq_ret, wp_deviceId]
  refine ss_send m c 6 8 rfl (k0_dev22_eq c) (k0_off1_eq c 6) (k0_off2_eq c) (k0_off3_eq c) (k0_off4_eq c 6) ?_
  refine ss_send m c 7 7 rfl (k0_dev23_eq c) (k0_off1_eq c 7) (k0_off2_eq c) (k0_off3_eq c) (k0_off4_eq c 7) ?_
  refine ss_send m c 8 6 rfl (k0_dev24_eq c) (k0_off1_eq c 8) (k0_off2_eq c) (k0_off3_eq c) (k0_off4_eq c 8) ?_
  exact h _

/-- The blocks for the devices ten and eleven ahead. -/
theorem part7 (c : Dev nD) {w₁ w₂ : BitVec 32} {kk}
    (h : SS m c 4 R ⊢ run c (kk ⟨⟩) Q) :
    SS m c 6 R
      ⊢ run c (At (k0_part7 (F := F)) c w₁ w₂ >>= kk) Q := by
  rw [k0_part7_eq_skeleton]; unfold At k0_part7_skel
  simp only [run, semSignalWord, semWaitWord, Prog.lift, Prog.bind_op, Prog.bind_ret, Prog.pure_eq_ret, wp_deviceId]
  refine ss_send m c 9 5 rfl (k0_dev25_eq c) (k0_off1_eq c 9) (k0_off2_eq c) (k0_off3_eq c) (k0_off4_eq c 9) ?_
  refine ss_send m c 10 4 rfl (k0_dev26_eq c) (k0_off1_eq c 10) (k0_off2_eq c) (k0_off3_eq c) (k0_off4_eq c 10) ?_
  exact h

/-- The blocks for the devices twelve to fourteen ahead. -/
theorem part8 (c : Dev nD) {w₁ : BitVec 32} {kk}
    (h : SS m c 1 R ⊢ run c (kk ⟨⟩) Q) :
    SS m c 4 R
      ⊢ run c (At (k0_part8 (F := F)) c w₁ >>= kk) Q := by
  rw [k0_part8_eq_skeleton]; unfold At k0_part8_skel
  simp only [run, semSignalWord, semWaitWord, Prog.lift, Prog.bind_op, Prog.bind_ret, Prog.pure_eq_ret, wp_deviceId]
  refine ss_send m c 11 3 rfl (k0_dev27_eq c) (k0_off1_eq c 11) (k0_off2_eq c) (k0_off3_eq c) (k0_off4_eq c 11) ?_
  refine ss_send m c 12 2 rfl (k0_dev28_eq c) (k0_off1_eq c 12) (k0_off2_eq c) (k0_off3_eq c) (k0_off4_eq c 12) ?_
  refine ss_send m c 13 1 rfl (k0_dev29_eq c) (k0_off1_eq c 13) (k0_off2_eq c) (k0_off3_eq c) (k0_off4_eq c 13) ?_
  exact h

/-- The last block sent, the copy of `w`, the device's own product, and the first block received. -/
theorem part9 (c : Dev nD) {w₁ : BitVec 32} {kk}
    (h : ∀ w, RS m c 14 (acc m c 0) iprop(done (sndD c) 0 ∗ xPts c c (xval m c) ∗ wPtsAll c (wstg m c) ∗ R) ⊢ run c (kk ⟨w, k0_pay5 (acc m c 0), crow m c (back c 1)⟩) Q) :
    SS m c 1 iprop(xPts c c (xval m c) ∗ wPtsAll c (wstg m c) ∗ (∃ f, wbPts c f) ∗ (∃ f, oPts c f) ∗ left (rcvL c) 15 ∗ R)
      ⊢ run c (At (k0_part9 (F := F)) c w₁ >>= kk) Q := by
  rw [k0_part9_eq_skeleton]; unfold At k0_part9_skel
  simp only [run, semSignalWord, semWaitWord, Prog.lift, Prog.bind_op, Prog.bind_ret, Prog.pure_eq_ret, wp_deviceId]
  refine ss_send m c 14 0 rfl (k0_dev30_eq c) (k0_off1_eq c 14) (k0_off2_eq c) (k0_off3_eq c) (k0_off4_eq c 14) ?_
  refine BIBase.Entails.trans ?_ (fill_w m c (A := iprop(ctx m ∗ owe c (oweR c 0) ∗ done (sndD c) 0)) (R := iprop(xPts c c (xval m c) ∗ (∃ f, oPts c f) ∗ left (rcvL c) 15 ∗ R)) ?_)
  · unfold SS; rw [left_none]
    iintro ⟨Hc, HO, -, HD, Hx, Hw, Hwb, Ho, HL, HR⟩
    isplitl [Hc HO HD]
    · isplitl [Hc]; · iexact Hc
      isplitl [HO]; · iexact HO
      iexact HD
    isplitl [Hw]; · iexact Hw
    isplitl [Hwb]; · iexact Hwb
    isplitl [Hx]; · iexact Hx
    isplitl [Ho]; · iexact Ho
    isplitl [HL]; · iexact HL
    iexact HR
  refine BIBase.Entails.trans ?_ (own_product m c (A := iprop(ctx m ∗ owe c (oweR c 0) ∗ done (sndD c) 0)) (R := iprop(wPtsAll c (wstg m c) ∗ left (rcvL c) 15 ∗ R)) (k0_off5_eq c) (k0_off6_eq c) ?_)
  · iintro ⟨HA, Hw, Hwb, Hx, Ho, HL, HR⟩
    isplitl [HA]; · iexact HA
    isplitl [Hx]; · iexact Hx
    isplitl [Hwb]; · iexact Hwb
    isplitl [Ho]; · iexact Ho
    isplitl [Hw]; · iexact Hw
    isplitl [HL]; · iexact HL
    iexact HR
  refine BIBase.Entails.trans ?_ (BIBase.Entails.trans (rs_enter m c (f := acc m c 0) (R := iprop(done (sndD c) 0 ∗ xPts c c (xval m c) ∗ wPtsAll c (wstg m c) ∗ R))) ?_)
  · iintro ⟨⟨Hc, HO, HD⟩, Hx, Hwb, Ho, Hw, HL, HR⟩
    isplitl [Hc]; · iexact Hc
    isplitl [HO]; · iexact HO
    isplitl [Ho]; · iexact Ho
    isplitl [Hwb]; · iexact Hwb
    isplitl [HL]; · iexact HL
    isplitl [HD]; · iexact HD
    isplitl [Hx]; · iexact Hx
    isplitl [Hw]; · iexact Hw
    iexact HR
  refine rs_wait m c 0 14 rfl (k0_off7_eq c 0) (k0_off8_eq c 0) ?_
  refine out_load (A := ctx m) c ?_
  refine rs_comm m c 0 14 rfl (k0_off9_eq c 0) ?_
  exact h _

end Cert.KernelIdealProof

end
-- ==== Proof.Receiving.lean ====
/-
# The parts that add the received blocks

Each part takes the state before it to the state after it; the running sum is written out at every step.
-/
module

public import proofs.«01_k».proof.Proof.Sending

@[expose] public section

set_option maxRecDepth 20000

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable {α : Type}
variable {Q : α → sProp (MT nD τ sig Unit (Elt F) ℕ UU ℕ)} {R : sProp (MT nD τ sig Unit (Elt F) ℕ UU ℕ)}

theorem back_off (c : Dev nD) (i : Fin 15) : (c.val + 15 - i.val) % 16 = (back c (i.val + 1)).val := back_val c i

/-- The blocks from the devices one and two behind are added. -/
theorem part10 (c : Dev nD) {w₁ w₂ : BitVec 32} {kk}
    (h : ∀ w w', RS m c 13 (acc m c 2) R ⊢ run c (kk ⟨w, w'⟩) Q) :
    RS m c 14 (acc m c 0) R
      ⊢ run c (At (k0_part10 (F := F)) c w₁ w₂ (k0_pay5 (acc m c 0)) (crow m c (back c 1)) >>= kk) Q := by
  rw [k0_part10_eq_skeleton]; unfold At k0_part10_skel
  simp only [run, semSignalWord, semWaitWord, Prog.lift, Prog.bind_op, Prog.bind_ret, Prog.pure_eq_ret, wp_deviceId]
  refine rs_w m c 14 (back c 1) ((k0_off10_eq c 0).trans (by rw [back_val c 0]; rfl)) ?_
  refine out_load (A := ctx m) c ?_
  refine out_store (A := ctx m) c (acc m c 1) rfl ?_
  refine rs_wait m c 1 13 rfl (k0_off7_eq c 1) (k0_off8_eq c 1) ?_
  refine out_load (A := ctx m) c ?_
  refine rs_comm m c 1 13 rfl (k0_off9_eq c 1) ?_
  refine rs_w m c 13 (back c 2) ((k0_off10_eq c 1).trans (by rw [back_val c 1]; rfl)) ?_
  refine out_load (A := ctx m) c ?_
  refine out_store (A := ctx m) c (acc m c 2) rfl ?_
  exact h _ _

/-- The block from three behind is added, the next one awaited. -/
theorem part11 (c : Dev nD) {w₁ w₂ w₃ : BitVec 32} {kk}
    (h : ∀ w, RS m c 11 (acc m c 3) R ⊢ run c (kk w) Q) :
    RS m c 13 (acc m c 2) R
      ⊢ run c (At (k0_part11 (F := F)) c w₁ w₂ w₃ >>= kk) Q := by
  rw [k0_part11_eq_skeleton]; unfold At k0_part11_skel
  simp only [run, semSignalWord, semWaitWord, Prog.lift, Prog.bind_op, Prog.bind_ret, Prog.pure_eq_ret, wp_deviceId]
  refine rs_wait m c 2 12 rfl (k0_off7_eq c 2) (k0_off8_eq c 2) ?_
  refine out_load (A := ctx m) c ?_
  refine rs_comm m c 2 12 rfl (k0_off9_eq c 2) ?_
  refine rs_w m c 12 (back c 3) ((k0_off10_eq c 2).trans (by rw [back_val c 2]; rfl)) ?_
  refine out_load (A := ctx m) c ?_
  refine out_store (A := ctx m) c (acc m c 3) rfl ?_
  refine rs_wait m c 3 11 rfl (k0_off7_eq c 3) (k0_off8_eq c 3) ?_
  exact h _

/-- The block from four behind is added, the sum with the next one formed. -/
theorem part12 (c : Dev nD) {w₁ w₂ : BitVec 32} {kk}
    (h : RS m c 10 (acc m c 4) R ⊢ run c (kk (acc m c 5)) Q) :
    RS m c 11 (acc m c 3) R
      ⊢ run c (At (k0_part12 (F := F)) c w₁ w₂ >>= kk) Q := by
  rw [k0_part12_eq_skeleton]; unfold At k0_part12_skel
  simp only [run, semSignalWord, semWaitWord, Prog.lift, Prog.bind_op, Prog.bind_ret, Prog.pure_eq_ret, wp_deviceId]
  refine out_load (A := ctx m) c ?_
  refine rs_comm m c 3 11 rfl (k0_off9_eq c 3) ?_
  refine rs_w m c 11 (back c 4) ((k0_off10_eq c 3).trans (by rw [back_val c 3]; rfl)) ?_
  refine out_load (A := ctx m) c ?_
  refine out_store (A := ctx m) c (acc m c 4) rfl ?_
  refine rs_wait m c 4 10 rfl (k0_off7_eq c 4) (k0_off8_eq c 4) ?_
  refine out_load (A := ctx m) c ?_
  refine rs_comm m c 4 10 rfl (k0_off9_eq c 4) ?_
  refine rs_w m c 10 (back c 5) ((k0_off10_eq c 4).trans (by rw [back_val c 4]; rfl)) ?_
  refine out_load (A := ctx m) c ?_
  exact h

/-- That sum is written, and the block from six behind added. -/
theorem part13 (c : Dev nD) {w₁ : BitVec 32} {kk}
    (h : ∀ w, RS m c 9 (acc m c 6) R ⊢ run c (kk w) Q) :
    RS m c 10 (acc m c 4) R
      ⊢ run c (At (k0_part13 (F := F)) c w₁ (acc m c 5) >>= kk) Q := by
  rw [k0_part13_eq_skeleton]; unfold At k0_part13_skel
  simp only [run, semSignalWord, semWaitWord, Prog.lift, Prog.bind_op, Prog.bind_ret, Prog.pure_eq_ret, wp_deviceId]
  refine out_store (A := ctx m) c (acc m c 5) rfl ?_
  refine rs_wait m c 5 9 rfl (k0_off7_eq c 5) (k0_off8_eq c 5) ?_
  refine out_load (A := ctx m) c ?_
  refine rs_comm m c 5 9 rfl (k0_off9_eq c 5) ?_
  refine rs_w m c 9 (back c 6) ((k0_off10_eq c 5).trans (by rw [back_val c 5]; rfl)) ?_
  refine out_load (A := ctx m) c ?_
  refine out_store (A := ctx m) c (acc m c 6) rfl ?_
  exact h _

/-- The block from seven behind is added, the next one read. -/
theorem part14 (c : Dev nD) {w₁ w₂ : BitVec 32} {kk}
    (h : RS m c 7 (acc m c 7) R ⊢ run c (kk ⟨k0_pay13 (acc m c 7), k0_pay14 (crow m c (back c 8)), wrow m c (back c 8)⟩) Q) :
    RS m c 9 (acc m c 6) R
      ⊢ run c (At (k0_part14 (F := F)) c w₁ w₂ >>= kk) Q := by
  rw [k0_part14_eq_skeleton]; unfold At k0_part14_skel
  simp only [run, semSignalWord, semWaitWord, Prog.lift, Prog.bind_op, Prog.bind_ret, Prog.pure_eq_ret, wp_deviceId]
  refine rs_wait m c 6 8 rfl (k0_off7_eq c 6) (k0_off8_eq c 6) ?_
  refine out_load (A := ctx m) c ?_
  refine rs_comm m c 6 8 rfl (k0_off9_eq c 6) ?_
  refine rs_w m c 8 (back c 7) ((k0_off10_eq c 6).trans (by rw [back_val c 6]; rfl)) ?_
  refine out_load (A := ctx m) c ?_
  refine out_store (A := ctx m) c (acc m c 7) rfl ?_
  refine rs_wait m c 7 7 rfl (k0_off7_eq c 7) (k0_off8_eq c 7) ?_
  refine out_load (A := ctx m) c ?_
  refine rs_comm m c 7 7 rfl (k0_off9_eq c 7) ?_
  refine rs_w m c 7 (back c 8) ((k0_off10_eq c 7).trans (by rw [back_val c 7]; rfl)) ?_
  exact h

/-- The blocks from eight and nine behind are added. -/
theorem part15 (c : Dev nD) {w₁ : BitVec 32} {kk}
    (h : ∀ w, RS m c 6 (acc m c 9) R ⊢ run c (kk w) Q) :
    RS m c 7 (acc m c 7) R
      ⊢ run c (At (k0_part15 (F := F)) c w₁ (k0_pay13 (acc m c 7)) (k0_pay14 (crow m c (back c 8))) (wrow m c (back c 8)) >>= kk) Q := by
  rw [k0_part15_eq_skeleton]; unfold At k0_part15_skel
  simp only [run, semSignalWord, semWaitWord, Prog.lift, Prog.bind_op, Prog.bind_ret, Prog.pure_eq_ret, wp_deviceId]
  refine out_load (A := ctx m) c ?_
  refine out_store (A := ctx m) c (acc m c 8) rfl ?_
  refine rs_wait m c 8 6 rfl (k0_off7_eq c 8) (k0_off8_eq c 8) ?_
  refine out_load (A := ctx m) c ?_
  refine rs_comm m c 8 6 rfl (k0_off9_eq c 8) ?_
  refine rs_w m c 6 (back c 9) ((k0_off10_eq c 8).trans (by rw [back_val c 8]; rfl)) ?_
  refine out_load (A := ctx m) c ?_
  refine out_store (A := ctx m) c (acc m c 9) rfl ?_
  exact h _

/-- The block from ten behind is added, the next one read. -/
theorem part16 (c : Dev nD) {w₁ w₂ : BitVec 32} {kk}
    (h : ∀ w, RS m c 4 (acc m c 10) R ⊢ run c (kk ⟨w, k0_pay18 (acc m c 10), crow m c (back c 11)⟩) Q) :
    RS m c 6 (acc m c 9) R
      ⊢ run c (At (k0_part16 (F := F)) c w₁ w₂ >>= kk) Q := by
  rw [k0_part16_eq_skeleton]; unfold At k0_part16_skel
  simp only [run, semSignalWord, semWaitWord, Prog.lift, Prog.bind_op, Prog.bind_ret, Prog.pure_eq_ret, wp_deviceId]
  refine rs_wait m c 9 5 rfl (k0_off7_eq c 9) (k0_off8_eq c 9) ?_
  refine out_load (A := ctx m) c ?_
  refine rs_comm m c 9 5 rfl (k0_off9_eq c 9) ?_
  refine rs_w m c 5 (back c 10) ((k0_off10_eq c 9).trans (by rw [back_val c 9]; rfl)) ?_
  refine out_load (A := ctx m) c ?_
  refine out_store (A := ctx m) c (acc m c 10) rfl ?_
  refine rs_wait m c 10 4 rfl (k0_off7_eq c 10) (k0_off8_eq c 10) ?_
  refine out_load (A := ctx m) c ?_
  refine rs_comm m c 10 4 rfl (k0_off9_eq c 10) ?_
  exact h _

/-- The blocks from eleven and twelve behind are added. -/
theorem part17 (c : Dev nD) {w₁ w₂ : BitVec 32} {kk}
    (h : ∀ w w', RS m c 3 (acc m c 12) R ⊢ run c (kk ⟨w, w'⟩) Q) :
    RS m c 4 (acc m c 10) R
      ⊢ run c (At (k0_part17 (F := F)) c w₁ w₂ (k0_pay18 (acc m c 10)) (crow m c (back c 11)) >>= kk) Q := by
  rw [k0_part17_eq_skeleton]; unfold At k0_part17_skel
  simp only [run, semSignalWord, semWaitWord, Prog.lift, Prog.bind_op, Prog.bind_ret, Prog.pure_eq_ret, wp_deviceId]
  refine rs_w m c 4 (back c 11) ((k0_off10_eq c 10).trans (by rw [back_val c 10]; rfl)) ?_
  refine out_load (A := ctx m) c ?_
  refine out_store (A := ctx m) c (acc m c 11) rfl ?_
  refine rs_wait m c 11 3 rfl (k0_off7_eq c 11) (k0_off8_eq c 11) ?_
  refine out_load (A := ctx m) c ?_
  refine rs_comm m c 11 3 rfl (k0_off9_eq c 11) ?_
  refine rs_w m c 3 (back c 12) ((k0_off10_eq c 11).trans (by rw [back_val c 11]; rfl)) ?_
  refine out_load (A := ctx m) c ?_
  refine out_store (A := ctx m) c (acc m c 12) rfl ?_
  exact h _ _

/-- The block from thirteen behind is added, the next one awaited. -/
theorem part18 (c : Dev nD) {w₁ w₂ w₃ : BitVec 32} {kk}
    (h : ∀ w, RS m c 1 (acc m c 13) R ⊢ run c (kk w) Q) :
    RS m c 3 (acc m c 12) R
      ⊢ run c (At (k0_part18 (F := F)) c w₁ w₂ w₃ >>= kk) Q := by
  rw [k0_part18_eq_skeleton]; unfold At k0_part18_skel
  simp only [run, semSignalWord, semWaitWord, Prog.lift, Prog.bind_op, Prog.bind_ret, Prog.pure_eq_ret, wp_deviceId]
  refine rs_wait m c 12 2 rfl (k0_off7_eq c 12) (k0_off8_eq c 12) ?_
  refine out_load (A := ctx m) c ?_
  refine rs_comm m c 12 2 rfl (k0_off9_eq c 12) ?_
  refine rs_w m c 2 (back c 13) ((k0_off10_eq c 12).trans (by rw [back_val c 12]; rfl)) ?_
  refine out_load (A := ctx m) c ?_
  refine out_store (A := ctx m) c (acc m c 13) rfl ?_
  refine rs_wait m c 13 1 rfl (k0_off7_eq c 13) (k0_off8_eq c 13) ?_
  exact h _

/-- The block from fourteen behind is added, the sum with the last one formed. -/
theorem part19 (c : Dev nD) {w₁ w₂ : BitVec 32} {kk}
    (h : RS m c 0 (acc m c 14) R ⊢ run c (kk (acc m c 15)) Q) :
    RS m c 1 (acc m c 13) R
      ⊢ run c (At (k0_part19 (F := F)) c w₁ w₂ >>= kk) Q := by
  rw [k0_part19_eq_skeleton]; unfold At k0_part19_skel
  simp only [run, semSignalWord, semWaitWord, Prog.lift, Prog.bind_op, Prog.bind_ret, Prog.pure_eq_ret, wp_deviceId]
  refine out_load (A := ctx m) c ?_
  refine rs_comm m c 13 1 rfl (k0_off9_eq c 13) ?_
  refine rs_w m c 1 (back c 14) ((k0_off10_eq c 13).trans (by rw [back_val c 13]; rfl)) ?_
  refine out_load (A := ctx m) c ?_
  refine out_store (A := ctx m) c (acc m c 14) rfl ?_
  refine rs_wait m c 14 0 rfl (k0_off7_eq c 14) (k0_off8_eq c 14) ?_
  refine out_load (A := ctx m) c ?_
  refine rs_comm m c 14 0 rfl (k0_off9_eq c 14) ?_
  refine rs_w m c 0 (back c 15) ((k0_off10_eq c 14).trans (by rw [back_val c 14]; rfl)) ?_
  refine out_load (A := ctx m) c ?_
  exact h

end Cert.KernelIdealProof

end
-- ==== Proof.Rounds.lean ====
/-
# The last parts: the departures and the exchange of the maximum

Each part takes the state before it to the state after it.
-/
module

public import proofs.«01_k».proof.Proof.Receiving

@[expose] public section

set_option maxRecDepth 20000

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable {α : Type}
variable {Q : α → sProp (MT nD τ sig Unit (Elt F) ℕ UU ℕ)} {R : sProp (MT nD τ sig Unit (Elt F) ℕ UU ℕ)}

theorem mate_0 (c : Dev nD) : (⟨k0_dev31 c, k0_dev31_lt c⟩ : Dev nD) = mate c 0 := by revert c; decide +kernel
theorem mate_1 (c : Dev nD) : (⟨k0_dev32 c, k0_dev32_lt c⟩ : Dev nD) = mate c 1 := by revert c; decide +kernel
theorem mate_2 (c : Dev nD) : (⟨k0_dev33 c, k0_dev33_lt c⟩ : Dev nD) = mate c 2 := by revert c; decide +kernel
theorem mate_3 (c : Dev nD) : (⟨k0_dev34 c, k0_dev34_lt c⟩ : Dev nD) = mate c 3 := by revert c; decide +kernel

theorem amax_zero (c : Dev nD) : amax m 0 c = k0_pay24 (acc m c 15) := by unfold amax; rfl
theorem amax_succ (r : ℕ) (c : Dev nD) : amax m (r + 1) c = Scalar.maximumf (amax m r c) (amax m r (mate c (Fin.ofNat 4 r))) := by
  rw [amax]
theorem pay26_eq (a b : F .f32) : k0_pay26 a (fun _ => b) = Scalar.maximumf a b := rfl
theorem pay29_eq (a b : F .f32) : k0_pay29 a (fun _ => b) = Scalar.maximumf a b := rfl
theorem pay31_eq (a b : F .f32) : k0_pay31 a (fun _ => b) = Scalar.maximumf a b := rfl
theorem pay33_eq (a b : F .f32) : k0_pay33 a (fun _ => b) = Scalar.divf (Scalar.maximumf a b) (Scalar.ofBits .f32 0x43E00000#32) := rfl
theorem max_0 (c : Dev nD) : k0_pay24 (acc m c 15) = amax m 0 c := (amax_zero m c).symm
theorem max_1 (c : Dev nD) : k0_pay26 (amax m 0 c) (fun _ => amax m 0 (mate c 0)) = amax m 1 c := by
  rw [pay26_eq, amax_succ m 0, show (Fin.ofNat 4 0 : Fin 4) = 0 from rfl]
theorem max_2 (c : Dev nD) : k0_pay29 (amax m 1 c) (fun _ => amax m 1 (mate c 1)) = amax m 2 c := by
  rw [pay29_eq, amax_succ m 1, show (Fin.ofNat 4 1 : Fin 4) = 1 from rfl]
theorem max_3 (c : Dev nD) : k0_pay31 (amax m 2 c) (fun _ => amax m 2 (mate c 2)) = amax m 3 c := by
  rw [pay31_eq, amax_succ m 2, show (Fin.ofNat 4 2 : Fin 4) = 2 from rfl]
theorem max_4 (c : Dev nD) : k0_pay33 (amax m 3 c) (fun _ => amax m 3 (mate c 3)) = scale m c := by
  unfold scale
  rw [pay33_eq, amax_succ m 3, show (Fin.ofNat 4 3 : Fin 4) = 3 from rfl]
theorem splat_eq (a : F .f32) (y : S1x8x128.Idx) : shapeCast S1x8x128 (broadcast S8x128 a) shapeCasts_S8x128_S1x8x128 y = a := rfl
theorem put_0 (c : Dev nD) (y : S1x8x128.Idx) : k0_pay25 (acc m c 15) y = amax m 0 c := (splat_eq _ y).trans (max_0 m c)
theorem put_1 (c : Dev nD) (y : S1x8x128.Idx) : k0_pay28 (k0_pay27 (amax m 0 c) (fun _ => amax m 0 (mate c 0))) y = amax m 1 c :=
  (splat_eq _ y).trans (max_1 m c)
theorem put_2 (c : Dev nD) (y : S1x8x128.Idx) : k0_pay30 (amax m 1 c) (fun _ => amax m 1 (mate c 1)) y = amax m 2 c := (splat_eq _ y).trans (max_2 m c)
theorem put_3 (c : Dev nD) (y : S1x8x128.Idx) : k0_pay32 (amax m 2 c) (fun _ => amax m 2 (mate c 2)) y = amax m 3 c := (splat_eq _ y).trans (max_3 m c)

variable {P P' : sProp (MT nD τ sig Unit (Elt F) ℕ UU ℕ)}

omit [FloatOps F] in
theorem sep_turn : iprop(P ∗ P' ∗ R) ⊢ iprop(P' ∗ P ∗ R) := by
  iintro ⟨H, H', HR⟩
  isplitl [H']; · iexact H'
  isplitl [H]; · iexact H
  iexact HR

/-- The sum is complete; the first five departures are awaited. -/
theorem part20 (c : Dev nD) {f : (cc0_stg2_0 : Ref sig .tc).ty.Contents (Elt F)} {kk}
    (h : WS m c 10 (acc m c 15) R ⊢ run c (kk ⟨⟩) Q) :
    WS m c 15 f R
      ⊢ run c (At (k0_part20 (F := F)) c (acc m c 15) >>= kk) Q := by
  rw [k0_part20_eq_skeleton]; unfold At k0_part20_skel
  simp only [run, semSignalWord, semWaitWord, Prog.lift, Prog.bind_op, Prog.bind_ret, Prog.pure_eq_ret, wp_deviceId]
  refine out_store (A := ctx m) c (acc m c 15) rfl ?_
  refine ws_wait m c 0 14 rfl (k0_off1_eq c 0) (k0_off4_eq c 0) ?_
  refine ws_wait m c 1 13 rfl (k0_off1_eq c 1) (k0_off4_eq c 1) ?_
  refine ws_wait m c 2 12 rfl (k0_off1_eq c 2) (k0_off4_eq c 2) ?_
  refine ws_wait m c 3 11 rfl (k0_off1_eq c 3) (k0_off4_eq c 3) ?_
  refine ws_wait m c 4 10 rfl (k0_off1_eq c 4) (k0_off4_eq c 4) ?_
  exact h

/-- The next six departures. -/
theorem part21 (c : Dev nD) {kk}
    (h : WS m c 4 (acc m c 15) R ⊢ run c (kk ⟨⟩) Q) :
    WS m c 10 (acc m c 15) R
      ⊢ run c (At (k0_part21 (F := F)) c >>= kk) Q := by
  rw [k0_part21_eq_skeleton]; unfold At k0_part21_skel
  simp only [run, semSignalWord, semWaitWord, Prog.lift, Prog.bind_op, Prog.bind_ret, Prog.pure_eq_ret, wp_deviceId]
  refine ws_wait m c 5 9 rfl (k0_off1_eq c 5) (k0_off4_eq c 5) ?_
  refine ws_wait m c 6 8 rfl (k0_off1_eq c 6) (k0_off4_eq c 6) ?_
  refine ws_wait m c 7 7 rfl (k0_off1_eq c 7) (k0_off4_eq c 7) ?_
  refine ws_wait m c 8 6 rfl (k0_off1_eq c 8) (k0_off4_eq c 8) ?_
  refine ws_wait m c 9 5 rfl (k0_off1_eq c 9) (k0_off4_eq c 9) ?_
  refine ws_wait m c 10 4 rfl (k0_off1_eq c 10) (k0_off4_eq c 10) ?_
  exact h

/-- The last four departures; the device's maximum, written for the first round. -/
theorem part22 (c : Dev nD) {w₁ : BitVec 32} {kk}
    (h : ∀ w, XS m c (oweA c 4) (acc m c 15) (exchW m c 0) iprop(done (depD m c) 0 ∗ R) ⊢ run c (kk ⟨amax m 0 c, w⟩) Q) :
    WS m c 4 (acc m c 15) iprop(exchL c 0 ∗ R)
      ⊢ run c (At (k0_part22 (F := F)) c w₁ >>= kk) Q := by
  rw [k0_part22_eq_skeleton]; unfold At k0_part22_skel
  simp only [run, semSignalWord, semWaitWord, Prog.lift, Prog.bind_op, Prog.bind_ret, Prog.pure_eq_ret, wp_deviceId]
  refine ws_wait m c 11 3 rfl (k0_off1_eq c 11) (k0_off4_eq c 11) ?_
  refine ws_wait m c 12 2 rfl (k0_off1_eq c 12) (k0_off4_eq c 12) ?_
  refine ws_wait m c 13 1 rfl (k0_off1_eq c 13) (k0_off4_eq c 13) ?_
  refine ws_wait m c 14 0 rfl (k0_off1_eq c 14) (k0_off4_eq c 14) ?_
  refine BIBase.Entails.trans (xs_enter m c) ?_
  refine out_load (A := ctx m) c ?_
  refine x_load m c 0 rfl fun _ => ?_
  refine x_store m c 0 rfl (put_0 m c) ?_
  rw [max_0]
  exact h _

/-- The first round. -/
theorem part23 (c : Dev nD) {w₁ w₂ : BitVec 32} {kk}
    (h : ∀ w v, XS m c (oweA c 3) (acc m c 15) (exchL c 1) iprop(exchD m c 0 ∗ R) ⊢ run c (kk ⟨amax m 1 c, w, k0_pay27 (amax m 0 c) (fun _ => amax m 0 (mate c 0)), v⟩) Q) :
    XS m c (oweA c 4) (acc m c 15) (exchW m c 0) iprop(exchL c 1 ∗ R)
      ⊢ run c (At (k0_part23 (F := F)) c w₁ (amax m 0 c) w₂ >>= kk) Q := by
  rw [k0_part23_eq_skeleton]; unfold At k0_part23_skel
  simp only [run, semSignalWord, semWaitWord, Prog.lift, Prog.bind_op, Prog.bind_ret, Prog.pure_eq_ret, wp_deviceId]
  refine x_send m c 0 3 rfl (mate_0 c) rfl rfl rfl rfl ?_
  refine x_left m c 0 3 rfl rfl rfl ?_
  refine x_arrived m c 0 3 rfl rfl rfl ?_
  refine x_read m c 0 rfl ?_
  refine BIBase.Entails.trans (xs_swap m c sep_turn) ?_
  refine x_load m c 1 rfl fun _ => ?_
  have h' := h
  rw [← max_1] at h'
  exact h' _ _

/-- The second round. -/
theorem part24 (c : Dev nD) {w₁ : BitVec 32} {v : Vec F S1x8x128 .f32} {kk}
    (h : XS m c (oweA c 2) (acc m c 15) (exchD m c 1) R ⊢ run c (kk ⟨⟩) Q) :
    XS m c (oweA c 3) (acc m c 15) (exchL c 1) R
      ⊢ run c (At (k0_part24 (F := F)) c w₁ (k0_pay27 (amax m 0 c) (fun _ => amax m 0 (mate c 0))) v >>= kk) Q := by
  rw [k0_part24_eq_skeleton]; unfold At k0_part24_skel
  simp only [run, semSignalWord, semWaitWord, Prog.lift, Prog.bind_op, Prog.bind_ret, Prog.pure_eq_ret, wp_deviceId]
  refine x_store m c 1 rfl (put_1 m c) ?_
  refine x_send m c 1 2 rfl (mate_1 c) rfl rfl rfl rfl ?_
  refine x_left m c 1 2 rfl rfl rfl ?_
  refine x_arrived m c 1 2 rfl rfl rfl ?_
  exact h

/-- The third round begins. -/
theorem part25 (c : Dev nD) {w₁ : BitVec 32} {kk}
    (h : XS m c (oweA c 1) (acc m c 15) (exchA m c 2) iprop(exchD m c 1 ∗ R) ⊢ run c (kk (amax m 2 c)) Q) :
    XS m c (oweA c 2) (acc m c 15) (exchD m c 1) iprop(exchL c 2 ∗ R)
      ⊢ run c (At (k0_part25 (F := F)) c w₁ (amax m 1 c) >>= kk) Q := by
  rw [k0_part25_eq_skeleton]; unfold At k0_part25_skel
  simp only [run, semSignalWord, semWaitWord, Prog.lift, Prog.bind_op, Prog.bind_ret, Prog.pure_eq_ret, wp_deviceId]
  refine x_read m c 1 rfl ?_
  refine BIBase.Entails.trans (xs_swap m c sep_turn) ?_
  refine x_load m c 2 rfl fun _ => ?_
  refine x_store m c 2 rfl (put_2 m c) ?_
  refine x_send m c 2 1 rfl (mate_2 c) rfl rfl rfl rfl ?_
  refine x_left m c 2 1 rfl rfl rfl ?_
  change _ ⊢ run c (kk (k0_pay29 (amax m 1 c) (fun _ => amax m 1 (mate c 1)))) Q
  rw [max_2]
  exact h

/-- The third round ends, the fourth begins. -/
theorem part26 (c : Dev nD) {w₁ : BitVec 32} {kk}
    (h : ∀ w, XS m c (oweA c 0) (acc m c 15) (exchS c 3) iprop(exchD m c 2 ∗ R) ⊢ run c (kk ⟨amax m 3 c, w⟩) Q) :
    XS m c (oweA c 1) (acc m c 15) (exchA m c 2) iprop(exchL c 3 ∗ R)
      ⊢ run c (At (k0_part26 (F := F)) c w₁ (amax m 2 c) >>= kk) Q := by
  rw [k0_part26_eq_skeleton]; unfold At k0_part26_skel
  simp only [run, semSignalWord, semWaitWord, Prog.lift, Prog.bind_op, Prog.bind_ret, Prog.pure_eq_ret, wp_deviceId]
  refine x_arrived m c 2 1 rfl rfl rfl ?_
  refine x_read m c 2 rfl ?_
  refine BIBase.Entails.trans (xs_swap m c sep_turn) ?_
  refine x_load m c 3 rfl fun _ => ?_
  refine x_store m c 3 rfl (put_3 m c) ?_
  refine x_send m c 3 0 rfl (mate_3 c) rfl rfl rfl rfl ?_
  rw [← max_3] at h
  exact h _

end Cert.KernelIdealProof

end
-- ==== Proof.Body.lean ====
/-
# The run of one device

The parts in order, from what a device has before the run to what it has after it.
-/
module

public import proofs.«01_k».proof.Proof.Rounds

@[expose] public section

set_option maxRecDepth 20000

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable {α : Type}
variable {Q : α → sProp (MT nD τ sig Unit (Elt F) ℕ UU ℕ)} {R : sProp (MT nD τ sig Unit (Elt F) ℕ UU ℕ)}

/-- What the run does not touch: the device's place for its own block, and the two semaphores the device would
    use for it. -/
def owned (c : Dev nD) : sProp 𝕄 :=
  iprop((∃ f, cPts c c f) ∗ semVal (cell c (.snd c)) 0 ∗ semVal (cell c (.rcv c)) 0)

/-- What device `c` has before the run, and after it. -/
def before (c : Dev nD) : sProp 𝕄 :=
  BS m c 15 iprop((atPos ER (cell c .bar) 0 (∅ : Finset (Fin 16)) 0 ∗ cred (tallyAt (cell c .bar) () 15))
    ∗ xPtsAll c (xstg m c) ∗ (∃ f, xbPts c f) ∗ left (tokL c) 15
    ∗ wPtsAll c (wstg m c) ∗ (∃ f, wbPts c f) ∗ (∃ f, oPts c f) ∗ left (rcvL c) 15 ∗ left (depA c) 15
    ∗ bigSep (Finset.univ : Finset (Fin 4)) (amL c) ∗ owned c)
def rest (c : Dev nD) : sProp 𝕄 :=
  iprop(wbPts c (wval m c) ∗ done (rcvD m c) 0 ∗ xPts c c (xval m c) ∗ wPtsAll c (wstg m c) ∗ semVal (cell c .bar) 0 ∗ xPtsAll c (xstg m c) ∗ owned c)
def after (c : Dev nD) : sProp 𝕄 :=
  XS m c (oweA c 0) (outv m c) (exchD m c 3) iprop(exchD m c 2 ∗ exchD m c 1 ∗ exchD m c 0 ∗ done (depD m c) 0 ∗ rest m c)

/-! ## Setting the next phase's things in front -/

theorem to_sends (c : Dev nD) :
    SS m c 15 iprop(xPts c c (xval m c) ∗ semVal (cell c .bar) 0
        ∗ (bigSep (Finset.univ : Finset (Fin 4)) fun r => iprop(∃ f, rPts (F := F) (mate c r) r f)) ∗ xPtsAll c (xstg m c)
        ∗ wPtsAll c (wstg m c) ∗ (∃ f, wbPts c f) ∗ (∃ f, oPts c f) ∗ left (rcvL c) 15 ∗ left (depA c) 15
        ∗ bigSep (Finset.univ : Finset (Fin 4)) (amL c) ∗ owned c)
      ⊢ SS m c 15 iprop(xPts c c (xval m c) ∗ wPtsAll c (wstg m c) ∗ (∃ f, wbPts c f) ∗ (∃ f, oPts c f) ∗ left (rcvL c) 15
        ∗ left (depA c) 15 ∗ (exchL c 0 ∗ exchL c 1 ∗ exchL c 2 ∗ exchL c 3) ∗ semVal (cell c .bar) 0 ∗ xPtsAll c (xstg m c) ∗ owned c) := by
  iintro ⟨Hc, HO, HL, HD, Hx, Hz, Hr, HX, HW, Hwb, Ho, Hrc, Hdp, Ham, Hown⟩
  ihave He := (exch_join c) $$ [Hr Ham]
  · isplitl [Hr]; · iexact Hr
    iexact Ham
  isplitl [Hc]; · iexact Hc
  isplitl [HO]; · iexact HO
  isplitl [HL]; · iexact HL
  isplitl [HD]; · iexact HD
  isplitl [Hx]; · iexact Hx
  isplitl [HW]; · iexact HW
  isplitl [Hwb]; · iexact Hwb
  isplitl [Ho]; · iexact Ho
  isplitl [Hrc]; · iexact Hrc
  isplitl [Hdp]; · iexact Hdp
  isplitl [He]; · iexact He
  isplitl [Hz]; · iexact Hz
  isplitl [HX]; · iexact HX
  iexact Hown

theorem to_departures (c : Dev nD) {f : (cc0_stg2_0 : Ref sig .tc).ty.Contents (Elt F)} :
    RS m c 0 f iprop(done (sndD c) 0 ∗ xPts c c (xval m c) ∗ wPtsAll c (wstg m c)
        ∗ left (depA c) 15 ∗ (exchL c 0 ∗ exchL c 1 ∗ exchL c 2 ∗ exchL c 3) ∗ semVal (cell c .bar) 0 ∗ xPtsAll c (xstg m c) ∗ owned c)
      ⊢ WS m c 15 f iprop(exchL c 0 ∗ exchL c 1 ∗ exchL c 2 ∗ exchL c 3 ∗ rest m c) := by
  refine BIBase.Entails.trans ?_ (BIBase.Entails.trans (ws_enter m c (f := f) (R := iprop(xPts c c (xval m c) ∗ wPtsAll c (wstg m c)
    ∗ (exchL c 0 ∗ exchL c 1 ∗ exchL c 2 ∗ exchL c 3) ∗ semVal (cell c .bar) 0 ∗ xPtsAll c (xstg m c) ∗ owned c))) ?_)
  · iintro ⟨Hc, HO, Ho, Hw, HL, HD, HS, Hx, HW, HA, HR⟩
    isplitl [Hc]; · iexact Hc
    isplitl [HO]; · iexact HO
    isplitl [Ho]; · iexact Ho
    isplitl [Hw]; · iexact Hw
    isplitl [HL]; · iexact HL
    isplitl [HD]; · iexact HD
    isplitl [HA]; · iexact HA
    isplitl [HS]; · iexact HS
    isplitl [Hx]; · iexact Hx
    isplitl [HW]; · iexact HW
    iexact HR
  · unfold rest
    iintro ⟨Hc, HO, Ho, HL, HD, Hw, Hrd, Hx, HW, ⟨E0, E1, E2, E3⟩, HR⟩
    isplitl [Hc]; · iexact Hc
    isplitl [HO]; · iexact HO
    isplitl [Ho]; · iexact Ho
    isplitl [HL]; · iexact HL
    isplitl [HD]; · iexact HD
    isplitl [E0]; · iexact E0
    isplitl [E1]; · iexact E1
    isplitl [E2]; · iexact E2
    isplitl [E3]; · iexact E3
    isplitl [Hw]; · iexact Hw
    isplitl [Hrd]; · iexact Hrd
    isplitl [Hx]; · iexact Hx
    isplitl [HW]; · iexact HW
    iexact HR

omit [FloatOps F] in
theorem third_first {P₁ P₂ P₃ R' : sProp (MT nD τ sig Unit (Elt F) ℕ UU ℕ)} : iprop(P₁ ∗ P₂ ∗ P₃ ∗ R') ⊢ iprop(P₁ ∗ P₃ ∗ P₂ ∗ R') := by
  iintro ⟨H1, H2, H3, HR⟩
  isplitl [H1]; · iexact H1
  isplitl [H3]; · iexact H3
  isplitl [H2]; · iexact H2
  iexact HR
omit [FloatOps F] in
theorem fourth_first {P₁ P₂ P₃ P₄ R' : sProp (MT nD τ sig Unit (Elt F) ℕ UU ℕ)} : iprop(P₁ ∗ P₂ ∗ P₃ ∗ P₄ ∗ R') ⊢ iprop(P₁ ∗ P₄ ∗ P₂ ∗ P₃ ∗ R') := by
  iintro ⟨H1, H2, H3, H4, HR⟩
  isplitl [H1]; · iexact H1
  isplitl [H4]; · iexact H4
  isplitl [H2]; · iexact H2
  isplitl [H3]; · iexact H3
  iexact HR
omit [FloatOps F] in
theorem fifth_first {P₁ P₂ P₃ P₄ P₅ R' : sProp (MT nD τ sig Unit (Elt F) ℕ UU ℕ)} :
    iprop(P₁ ∗ P₂ ∗ P₃ ∗ P₄ ∗ P₅ ∗ R') ⊢ iprop(P₁ ∗ P₅ ∗ P₂ ∗ P₃ ∗ P₄ ∗ R') := by
  iintro ⟨H1, H2, H3, H4, H5, HR⟩
  isplitl [H1]; · iexact H1
  isplitl [H5]; · iexact H5
  isplitl [H2]; · iexact H2
  isplitl [H3]; · iexact H3
  isplitl [H4]; · iexact H4
  iexact HR

/-! ## The run -/

/-- The run up to the scale. -/
theorem part27 (c : Dev nD) {kk}
    (h : XS m c (oweA c 0) (acc m c 15) (exchD m c 3) iprop(exchD m c 2 ∗ exchD m c 1 ∗ exchD m c 0 ∗ done (depD m c) 0 ∗ rest m c)
      ⊢ run c (kk ⟨scale m c, acc m c 15⟩) Q) :
    before m c ⊢ run c (At (k0_part27 (F := F)) >>= kk) Q := by
  rw [k0_part27_eq_skeleton]; unfold At k0_part27_skel before
  simp only [bind_assoc]
  refine part1 m c ?_
  intro w1 w1'
  dsimp only
  refine part2 m c ?_
  intro w2 w2'
  dsimp only
  refine part3 m c ?_
  refine BIBase.Entails.trans (to_sends m c) ?_
  refine part4 m c ?_
  intro w4 w4'
  dsimp only
  refine part5 m c ?_
  intro w5
  refine part6 m c ?_
  intro w6
  refine part7 m c ?_
  refine part8 m c ?_
  refine part9 m c ?_
  intro w9
  refine part10 m c ?_
  intro w10 w10'
  dsimp only
  refine part11 m c ?_
  intro w11
  refine part12 m c ?_
  refine part13 m c ?_
  intro w13
  refine part14 m c ?_
  refine part15 m c ?_
  intro w15
  refine part16 m c ?_
  intro w16
  refine part17 m c ?_
  intro w17 w17'
  dsimp only
  refine part18 m c ?_
  intro w18
  refine part19 m c ?_
  refine BIBase.Entails.trans (to_departures m c) ?_
  refine part20 m c ?_
  refine part21 m c ?_
  refine part22 m c ?_
  intro w22
  dsimp only
  refine BIBase.Entails.trans (xs_swap m c third_first) ?_
  refine part23 m c ?_
  intro w23 v23
  dsimp only
  refine part24 m c ?_
  refine BIBase.Entails.trans (xs_swap m c fourth_first) ?_
  refine part25 m c ?_
  refine BIBase.Entails.trans (xs_swap m c fifth_first) ?_
  refine part26 m c ?_
  intro w26
  simp only [run, Prog.lift, Prog.bind_op, Prog.bind_ret, Prog.pure_eq_ret]
  refine x_left m c 3 0 rfl rfl rfl ?_
  refine x_arrived m c 3 0 rfl rfl rfl ?_
  refine x_read m c 3 rfl ?_
  refine out_load (A := ctx m) c ?_
  rw [← max_4] at h
  exact h

/-- The run of one device. -/
theorem body_run (c : Dev nD) {Q : PUnit → sProp (MT nD τ sig Unit (Elt F) ℕ UU ℕ)} (h : after m c ⊢ Q ⟨⟩) :
    before m c ⊢ run c (At (cc0_body (F := F))) Q := by
  rw [cc0_body_eq_skeleton]; unfold At cc0_body_skel
  refine part27 m c ?_
  simp only [run, Prog.lift, Prog.bind_op, Prog.bind_ret, Prog.pure_eq_ret]
  refine out_load (A := ctx m) c ?_
  refine out_store (A := ctx m) c (outv m c) rfl ?_
  unfold run; rw [wp_ret]
  refine BIBase.Entails.trans ?_ Idealize.SL.BI.fupd_intro
  exact h

end Cert.KernelIdealProof

end
-- ==== Proof.Deal.lean ====
/-
# What the launch deals out

Every semaphore of every device is put under the schedule at once; the right to raise each goes to the device that
raises it, and what each device is owed at the launch is what the others owe it.
-/
module

public import proofs.«01_k».proof.Proof.Body

@[expose] public section

set_option maxRecDepth 20000

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The semaphores, numbered -/

/-- The kernel's own semaphores. -/
abbrev osem (x : OwnIx) : SemLoc sig := loc (ownKind x)

theorem ownKind_injective : Function.Injective ownKind := by
  rintro ((j | j) | (r | r)) ((j' | j') | (r' | r')) h <;>
    first
      | (obtain rfl : j = j' := by injection h); rfl
      | (obtain rfl : r = r' := by injection h); rfl
      | exact absurd h (by intro h'; injection h')
theorem allKind_injective : Function.Injective allKind := by
  rintro (_ | x) (_ | x') h
  · rfl
  · exact absurd h (by rcases x' with ((j | j) | (r | r)) <;> (intro h'; injection h'))
  · exact absurd h (by rcases x with ((j | j) | (r | r)) <;> (intro h'; injection h'))
  · exact congrArg Sum.inr (ownKind_injective h)

/-- All of them on all devices. -/
def cellAt (cx : Dev nD × AllIx) : GSem nD τ sig := cell cx.1 (allKind cx.2)
theorem cellAt_injective : Function.Injective cellAt := by
  rintro ⟨c, x⟩ ⟨c', x'⟩ h
  obtain ⟨rfl, hk⟩ := cell_inj h
  obtain rfl : x = x' := allKind_injective hk
  rfl
def allCells : Finset (GSem nD τ sig) := Finset.univ.map ⟨cellAt, cellAt_injective⟩

/-- The right to raise each once: the handshake's by every device's name, the others by the one transfer. -/
def tokAt (cx : Dev nD × (Fin 16 ⊕ OwnIx)) : GSem nD τ sig × ℕ × Fin 16 := match cx.2 with
  | .inl d => (cell cx.1 .bar, 0, d)
  | .inr x => (cell cx.1 (ownKind x), 0, 0)
theorem tokAt_injective : Function.Injective tokAt := by
  rintro ⟨c, (d | x)⟩ ⟨c', (d' | x')⟩ h
  · obtain ⟨rfl, -⟩ := cell_inj (congrArg Prod.fst h)
    have hd : d = d' := congrArg (fun p : GSem nD τ sig × ℕ × Fin 16 => p.2.2) h
    rw [hd]
  · obtain ⟨-, hk⟩ := cell_inj (congrArg Prod.fst h)
    exact absurd (allKind_injective (a₁ := .inl ()) (a₂ := .inr x') hk) (by intro h'; injection h')
  · obtain ⟨-, hk⟩ := cell_inj (congrArg Prod.fst h)
    exact absurd (allKind_injective (a₁ := .inr x) (a₂ := .inl ()) hk) (by intro h'; injection h')
  · obtain ⟨rfl, hk⟩ := cell_inj (congrArg Prod.fst h)
    rw [ownKind_injective hk]
def allToks : Finset (GSem nD τ sig × ℕ × Fin 16) := Finset.univ.map ⟨tokAt, tokAt_injective⟩

/-! ## What the launch deals out, and to whom -/

/-- The tokens of a device's own semaphores, as made. -/
def toks (c : Dev nD) : sProp 𝕄 :=
  iprop((bigSep (Finset.univ : Finset (Fin 16)) fun d => dutyTok ER (cell c .bar) 0 d)
    ∗ bigSep (Finset.univ : Finset OwnIx) fun x => dutyTok ER (cell c (ownKind x)) 0 (0 : Fin 16))
def ats (c : Dev nD) : sProp 𝕄 := bigSep (Finset.univ : Finset AllIx) fun x => atPos ER (cell c (allKind x)) 0 (∅ : Finset (Fin 16)) 0
def reach (c : Dev nD) : sProp 𝕄 := bigSep (Finset.univ : Finset AllIx) fun x => reached ER (cell c (allKind x)) 0

/-- What each device is dealt. -/
def G (c : Dev nD) : sProp 𝕄 :=
  iprop((bigSep (Finset.univ : Finset AllIx) fun x => roundState ER (sch m) (cell c (allKind x)) 0) ∗ reach c ∗ ats c ∗ toks c)

theorem fund_all : BI.own (ER (initOf allCells allToks)) ⊢ (|==> bigSep Finset.univ (G m) : sProp 𝕄) := by
  have hX (Φ : GSem nD τ sig → sProp (MT nD τ sig Unit (Elt F) ℕ UU ℕ)) :
      bigSep allCells Φ = bigSep Finset.univ fun c : Dev nD => bigSep Finset.univ fun x : AllIx => Φ (cell c (allKind x)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_sum]; rfl
  iintro HX
  imod (Rounds.fund ER (sch m) allCells allToks) $$ HX with ⟨Hst, Hr, Hat, Htok⟩
  imodintro
  ihave Hst' := (Entails.of_eq (hX fun g => roundState ER (sch m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hr']; · iexact Hr'
  isplitl [Hat']; · iexact Hat'
  iexact Htok'

theorem sems0_eq (c : Dev nD) :
    iprop(Pipeline.ownSems0 (Ix := Unit) (Name := ℕ) (U := UU) (Lvl := ℕ) (Val := Elt F) (τ := τ) osem c ∗ unscopedSems0 c)
      = (bigSep (Finset.univ : Finset AllIx) fun x => semVal (cell c (allKind x)) 0 : sProp 𝕄) := by
  have hu : (unscopedSems0 c : sProp 𝕄) = semVal (cell c .bar) 0 := by
    unfold unscopedSems0; rw [bigSep_eq_bigSepL_of_eq [SemLoc.reg barS] (by decide) (by decide)]; rfl
  rw [hu, bigSep_univ_sum, bigSep_univ_of_subsingleton ()]
  exact BI.equiv_iff.mp ⟨BI.sep_comm, BI.sep_comm⟩

theorem alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep (Finset.univ : Finset AllIx) fun x => here m c (allKind x)) ∗ ats c ∗ toks c) := by
  unfold G
  iintro ⟨Hos, Hus, Hst, Hr, Hat, Htok⟩
  ihave Hv := (Entails.of_eq (sems0_eq (F := F) c)) $$ [Hos Hus]
  · isplitl [Hos] <;> iassumption
  imod (show iprop((bigSep (Finset.univ : Finset AllIx) fun x => semVal (cell c (allKind x)) 0) ∗ bigSep Finset.univ fun x : AllIx => roundState ER (sch m) (cell c (allKind x)) 0)
      ⊢ (|={Set.univ}=> bigSep Finset.univ fun x : AllIx => iprop(∃ κ : ℕ, cellInv ER (sch m) κ (cell c (allKind x))) : sProp 𝕄) from by
        rw [← bigSep_sep']
        exact (bigSep_mono fun x _ => (Rounds.body_intro ER (sch m) (cell c (allKind x))).trans inv_alloc).trans (bigSep_fupd _ _)) $$ [Hv Hst] with Hinv
  · isplitl [Hv] <;> iassumption
  imodintro
  isplitl [Hinv Hr]
  · have h (x : AllIx) : iprop((∃ κ : ℕ, cellInv ER (sch m) κ (cell c (allKind x))) ∗ reached ER (cell c (allKind x)) 0) ⊢ here m c (allKind x) := by
      unfold here
      iintro ⟨⟨%κ, Hi⟩, Hr⟩
      iexists κ
      isplitl [Hi] <;> iassumption
    iapply (show iprop((bigSep (Finset.univ : Finset AllIx) fun x => iprop(∃ κ : ℕ, cellInv ER (sch m) κ (cell c (allKind x)))) ∗ reach c)
      ⊢ (bigSep (Finset.univ : Finset AllIx) fun x => here m c (allKind x) : sProp 𝕄) from by
        unfold reach; rw [← bigSep_sep']; exact bigSep_mono fun x _ => h x)
    isplitl [Hinv] <;> iassumption
  isplitl [Hat]; · iexact Hat
  iexact Htok

/-! ## The tokens, given to whoever raises the semaphore -/

/-- The tokens device `c` uses: to signal the others, to send them its blocks, and to exchange its maximum. -/
def mine (c : Dev nD) : sProp 𝕄 :=
  iprop(left (fun i => dutyTok ER (cell (peer c (15 - i)) .bar) 0 c) 15 ∗ left (tokL c) 15
    ∗ bigSep (Finset.univ : Finset (Fin 4)) fun r => iprop(dutyTok ER (cell c (.asn r)) 0 (0 : Fin 16) ∗ dutyTok ER (cell (mate c r) (.arv r)) 0 (0 : Fin 16)))

theorem tokL_join (c : Dev nD) : left (tokL (F := F) c) 15
    = iprop((bigSep (Finset.univ.erase c) fun j : Fin 16 => dutyTok ER (cell c (.snd j)) 0 (0 : Fin 16))
      ∗ bigSep (Finset.univ.erase c) fun d : Fin 16 => dutyTok ER (cell d (.rcv c)) 0 (0 : Fin 16)) := by
  rw [← left_peers c (fun j => dutyTok ER (cell c (.snd j)) 0 (0 : Fin 16)), ← left_peers c (fun d => dutyTok ER (cell d (.rcv c)) 0 (0 : Fin 16))]
  show bigSep (Finset.range 15) (tokL c) = iprop(bigSep (Finset.range 15) _ ∗ bigSep (Finset.range 15) _)
  rw [← bigSep_sep' (Finset.range 15)]
  rfl

theorem four_kinds (Φ : OwnIx → sProp (MT nD τ sig Unit (Elt F) ℕ UU ℕ)) : bigSep (Finset.univ : Finset OwnIx) Φ
    = iprop(((bigSep (Finset.univ : Finset (Fin 16)) fun j => Φ (.inl (.inl j))) ∗ bigSep (Finset.univ : Finset (Fin 16)) fun j => Φ (.inl (.inr j)))
      ∗ ((bigSep (Finset.univ : Finset (Fin 4)) fun r => Φ (.inr (.inl r))) ∗ bigSep (Finset.univ : Finset (Fin 4)) fun r => Φ (.inr (.inr r)))) := by
  rw [bigSep_univ_sum, bigSep_univ_sum, bigSep_univ_sum]; rfl

theorem regive : (bigSep Finset.univ fun c : Dev nD => (toks c : sProp 𝕄)) ⊢ bigSep Finset.univ fun c : Dev nD => mine c := by
  have hb : (bigSep (Finset.univ : Finset (Dev nD)) fun c => bigSep (Finset.univ : Finset (Fin 16)) fun d => (dutyTok ER (cell c .bar) 0 d : sProp 𝕄))
      ⊢ bigSep (Finset.univ : Finset (Dev nD)) fun c => left (fun i => dutyTok ER (cell (peer c (15 - i)) .bar) 0 c) 15 := by
    rw [bigSep_univ_comm]
    refine bigSep_mono fun c _ => ?_
    rw [left_peers c (fun d : Dev nD => dutyTok ER (cell d .bar) 0 c)]
    exact bigSep_subset (Finset.erase_subset _ _)
  have hs : iprop((bigSep (Finset.univ : Finset (Dev nD)) fun c => bigSep (Finset.univ : Finset (Fin 16)) fun j => (dutyTok ER (cell c (.snd j)) 0 (0 : Fin 16) : sProp 𝕄))
        ∗ bigSep (Finset.univ : Finset (Dev nD)) fun c => bigSep (Finset.univ : Finset (Fin 16)) fun j => (dutyTok ER (cell c (.rcv j)) 0 (0 : Fin 16) : sProp 𝕄))
      ⊢ bigSep (Finset.univ : Finset (Dev nD)) fun c => left (tokL (F := F) c) 15 := by
    rw [bigSep_univ_comm (fun (c : Dev nD) (j : Fin 16) => (dutyTok ER (cell c (.rcv j)) 0 (0 : Fin 16) : sProp 𝕄)), ← bigSep_sep']
    refine bigSep_mono fun c _ => ?_
    rw [tokL_join]
    exact BI.sep_mono (bigSep_subset (Finset.erase_subset _ _)) (bigSep_subset (Finset.erase_subset _ _))
  have hm : (bigSep (Finset.univ : Finset (Dev nD)) fun c => bigSep (Finset.univ : Finset (Fin 4)) fun r => (dutyTok ER (cell c (.arv r)) 0 (0 : Fin 16) : sProp 𝕄))
      = bigSep (Finset.univ : Finset (Dev nD)) fun c => bigSep (Finset.univ : Finset (Fin 4)) fun r => (dutyTok ER (cell (mate c r) (.arv r)) 0 (0 : Fin 16) : sProp 𝕄) := by
    rw [bigSep_univ_comm, bigSep_univ_comm (fun (c : Dev nD) (r : Fin 4) => (dutyTok ER (cell (mate c r) (.arv r)) 0 (0 : Fin 16) : sProp 𝕄))]
    exact bigSep_congr fun r _ => bigSep_univ_equiv (mates r) (fun c : Dev nD => (dutyTok ER (cell c (.arv r)) 0 (0 : Fin 16) : sProp 𝕄))
  unfold toks mine
  simp only [four_kinds, bigSep_sep']
  iintro ⟨Hb, ⟨Hs, Hr⟩, Ha, Hv⟩
  isplitl [Hb]; · iapply hb; iexact Hb
  isplitl [Hs Hr]
  · iapply hs
    isplitl [Hs]; · iexact Hs
    iexact Hr
  isplitl [Ha]; · iexact Ha
  iapply (Entails.of_eq hm); iexact Hv

/-- What each device has once every semaphore follows the schedule. -/
def G' (c : Dev nD) : sProp 𝕄 :=
  iprop((bigSep (Finset.univ : Finset (Dev nD × AllIx)) fun ck => here m ck.1 (allKind ck.2)) ∗ ats c ∗ mine c)

theorem regroup : (bigSep Finset.univ fun c : Dev nD => iprop((bigSep (Finset.univ : Finset AllIx) fun x => here m c (allKind x)) ∗ ats c ∗ toks c) : sProp 𝕄)
    ⊢ bigSep Finset.univ (G' m) := by
  rw [bigSep_sep', bigSep_sep', ← bigSep_univ_prod (fun ck : Dev nD × AllIx => here m ck.1 (allKind ck.2))]
  iintro ⟨#HI, Hat, Htok⟩
  ihave Htk := (regive (F := F)) $$ Htok
  have h (c : Dev nD) : iprop((bigSep (Finset.univ : Finset (Dev nD × AllIx)) fun ck => here m ck.1 (allKind ck.2)) ∗ (ats c ∗ mine c)) ⊢ G' m c := by
    unfold G'; exact BI.Entails.refl _
  iapply (bigSep_with_persistent (R := bigSep (Finset.univ : Finset (Dev nD × AllIx)) fun ck => here m ck.1 (allKind ck.2)) fun c _ => h c)
  isplitr; · iexact HI
  rw [bigSep_sep']
  isplitl [Hat]; · iexact Hat
  iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => alloc m c).trans (bigSep_fupd _ _)).trans (BI.fupd_mono (regroup m))

/-! ## The launch credit -/

theorem sum_peers {A : Type} [AddCommMonoid A] (c : Dev nD) (f : Fin 16 → A) :
    ∑ i ∈ Finset.range 15, f (peer c (15 - i)) = ∑ j ∈ Finset.univ.erase c, f j := by
  rw [← peers_image c, Finset.sum_image (peers_inj c)]
  conv_rhs => rw [← flip_range]
  rw [Finset.sum_image (by intro i hi j hj h; simp only [Finset.coe_range, Set.mem_Iio] at hi hj h; omega)]
  exact Finset.sum_congr rfl fun i hi => by
    have := Finset.mem_range.mp hi
    rw [show 14 - i + 1 = 15 - i from by omega]

theorem sum_four {A : Type} [AddCommMonoid A] (f : Fin 4 → A) : ∑ i ∈ Finset.range 4, f (Fin.ofNat 4 (3 - i)) = ∑ r, f r := by
  simp only [Finset.sum_range_succ, Finset.sum_range_zero, zero_add, Fin.sum_univ_four]
  show f 3 + f 2 + f 1 + f 0 = _
  rw [add_comm (f 3 + f 2 + f 1), add_comm (f 3 + f 2), add_comm (f 3) (f 2), ← add_assoc, ← add_assoc]

/-- What the others owe device `c` at the launch. -/
def due (c : Dev nD) : CellTallies nD τ sig Unit :=
  (∑ r : Fin 4, tallyAt (cell c (.arv r)) () M) + (∑ j ∈ Finset.univ.erase c, tallyAt (cell c (.rcv j)) () N)
    + tallyAt (cell c .bar) () 15

theorem tally_many {A : Type} [DecidableEq A] (s : Finset A) (g : GSem nD τ sig) :
    ∑ a ∈ s, (tallyAt g () 1 : CellTallies nD τ sig Unit) = tallyAt g () s.card := by
  induction s using Finset.induction_on with
  | empty => rw [Finset.sum_empty, Finset.card_empty, tallyAt_zero]
  | insert a s ha ih => rw [Finset.sum_insert ha, ih, Finset.card_insert_of_notMem ha, tallyAt_add, Nat.add_comm]

theorem sum_turn {A : Type} [AddCommMonoid A] (g : Dev nD → Dev nD → A) :
    ∑ d, ∑ j ∈ Finset.univ.erase d, g d j = ∑ j, ∑ d ∈ Finset.univ.erase j, g d j :=
  Finset.sum_comm' fun d j => by simp only [Finset.mem_univ, Finset.mem_erase, true_and, and_true]; exact ne_comm

theorem owed_due : ∑ d, oweB d 15 = ∑ d, due d := by
  have e (d : Dev nD) : oweB d 15 = (∑ r : Fin 4, tallyAt (cell (mate d r) (.arv r)) () M)
      + (∑ j ∈ Finset.univ.erase d, tallyAt (cell j (.rcv d)) () N) + ∑ j ∈ Finset.univ.erase d, tallyAt (cell j .bar) () 1 := by
    unfold oweB oweR oweA
    rw [sum_peers d (fun j => tallyAt (cell j (.rcv d)) () N), sum_peers d (fun j => tallyAt (cell j .bar) () 1),
      sum_four (fun r => tallyAt (cell (mate d r) (.arv r)) () M)]
  unfold due
  rw [Finset.sum_congr rfl fun d _ => e d]
  simp only [Finset.sum_add_distrib]
  congr 1
  · congr 1
    · rw [Finset.sum_comm, Finset.sum_comm (f := fun (c : Dev nD) (r : Fin 4) => tallyAt (cell c (.arv r)) () M)]
      exact Finset.sum_congr rfl fun r _ => Equiv.sum_comp (mates r) (fun c : Dev nD => tallyAt (cell c (.arv r)) () M)
    · exact sum_turn (fun d j => tallyAt (cell j (.rcv d)) () N)
  · rw [sum_turn (fun _ j => tallyAt (cell j .bar) () 1)]
    exact Finset.sum_congr rfl fun c _ => by
      rw [tally_many, Finset.card_erase_of_mem (Finset.mem_univ _), Finset.card_univ, Fintype.card_fin]; rfl

theorem due_at (c : Dev nD) (g : GSem nD τ sig) (h : due c g ≠ 0) : g.1 = (c.tc : Thread nD τ) := by
  obtain ⟨u, hu⟩ : ∃ u, 0 < due c g u := by
    by_contra hc
    exact h (Finsupp.ext fun u => Nat.eq_zero_of_not_pos fun hp => hc ⟨u, hp⟩)
  rcases Pipeline.add_pos_cases hu with hu | hu
  · rcases Pipeline.add_pos_cases hu with hu | hu
    · obtain ⟨r, -, hr⟩ := Pipeline.sum_pos_exists hu
      rw [(Pipeline.tallyAt_pos hr).1]
    · obtain ⟨j, -, hj⟩ := Pipeline.sum_pos_exists hu
      rw [(Pipeline.tallyAt_pos hj).1]
  · rw [(Pipeline.tallyAt_pos hu).1]

theorem creds (c : Dev nD) : (Pipeline.launchCred (fun d => oweB d 15) c : sProp 𝕄)
    = iprop(((bigSep (Finset.univ : Finset (Fin 4)) fun r => cred (tallyAt (cell c (.arv r)) () M))
      ∗ bigSep (Finset.univ.erase c) fun j : Fin 16 => cred (tallyAt (cell c (.rcv j)) () N)) ∗ cred (tallyAt (cell c .bar) () 15)) := by
  rw [Pipeline.launchCred_of_sum (fun d => oweB d 15) due owed_due due_at c]
  unfold due
  rw [BI.Entails.antisymm (cred_add _ _).1 (cred_add _ _).2, BI.Entails.antisymm (cred_add _ _).1 (cred_add _ _).2,
    Pipeline.cred_finsetSum, Pipeline.cred_finsetSum]

end Cert.KernelIdealProof

end
-- ==== Proof.Launch.lean ====
/-
# Entering and leaving the kernel

What a device has when its kernel starts, gathered from what the launch deals it and from its scratch buffers cut
into blocks; and what it gives back at the end: every semaphore at zero and every scratch buffer whole.
-/
module

public import proofs.«01_k».proof.Proof.Deal

@[expose] public section

set_option maxRecDepth 20000

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Buffers as their blocks -/

theorem c_slots (c : Dev nD) (f : Buf (Elt F) ((c : Thread nD τ).loc cc0_scratch2)) :
    (((c : Thread nD τ).loc cc0_scratch2) ↦{fullShare} f : sProp 𝕄) = bigSep (Finset.univ : Finset (Fin 16)) fun j => cPts c j f := by
  have h := pointsTo_biUnion (Ix := Unit) (Name := ℕ) (U := UU) (Lvl := ℕ) (ℓ := cmM.view.loc (c : Thread nD τ)) (q := fullShare) (f := f)
    Finset.univ (fun j => (slotR j).set) slots_disjoint
  rw [slots_cover] at h
  refine h.trans (bigSep_congr fun j _ => ?_)
  rw [← cSlot_set]
theorem s_slots (c : Dev nD) (f : Buf (Elt F) ((c : Thread nD τ).loc cc0_scratch3)) :
    (((c : Thread nD τ).loc cc0_scratch3) ↦{fullShare} f : sProp 𝕄) = bigSep (Finset.univ : Finset (Fin 4)) fun r => sPts c r f := by
  have h := pointsTo_biUnion (Ix := Unit) (Name := ℕ) (U := UU) (Lvl := ℕ) (ℓ := asM.view.loc (c : Thread nD τ)) (q := fullShare) (f := f)
    Finset.univ (fun r => (amR r).set) ams_disjoint
  rw [ams_cover] at h
  refine h.trans (bigSep_congr fun r _ => ?_)
  rw [← sSlot_set]
theorem r_slots (c : Dev nD) (f : Buf (Elt F) ((c : Thread nD τ).loc cc0_scratch4)) :
    (((c : Thread nD τ).loc cc0_scratch4) ↦{fullShare} f : sProp 𝕄) = bigSep (Finset.univ : Finset (Fin 4)) fun r => rPts c r f := by
  have h := pointsTo_biUnion (Ix := Unit) (Name := ℕ) (U := UU) (Lvl := ℕ) (ℓ := arM.view.loc (c : Thread nD τ)) (q := fullShare) (f := f)
    Finset.univ (fun r => (amR r).set) ams_disjoint
  rw [ams_cover] at h
  refine h.trans (bigSep_congr fun r _ => ?_)
  rw [← rSlot_set]

theorem some_c (c : Dev nD) (f : Buf (Elt F) ((c : Thread nD τ).loc cc0_scratch2)) (s : Finset (Fin 16)) :
    (bigSep s fun j => cPts c j f) ⊢ bigSep s fun j => iprop(∃ g, cPts (F := F) c j g) := by
  have h (j : Fin 16) : cPts c j f ⊢ iprop(∃ g, cPts (F := F) c j g) := by iintro H; iexists f; iexact H
  exact bigSep_mono fun j _ => h j
theorem some_s (c : Dev nD) (f : Buf (Elt F) ((c : Thread nD τ).loc cc0_scratch3)) (s : Finset (Fin 4)) :
    (bigSep s fun j => sPts c j f) ⊢ bigSep s fun j => iprop(∃ g, sPts (F := F) c j g) := by
  have h (j : Fin 4) : sPts c j f ⊢ iprop(∃ g, sPts (F := F) c j g) := by iintro H; iexists f; iexact H
  exact bigSep_mono fun j _ => h j
theorem some_r (c : Dev nD) (f : Buf (Elt F) ((c : Thread nD τ).loc cc0_scratch4)) (s : Finset (Fin 4)) :
    (bigSep s fun j => rPts c j f) ⊢ bigSep s fun j => iprop(∃ g, rPts (F := F) c j g) := by
  have h (j : Fin 4) : rPts c j f ⊢ iprop(∃ g, rPts (F := F) c j g) := by iintro H; iexists f; iexact H
  exact bigSep_mono fun j _ => h j

/-- The sixteen places, at whatever contents, are the buffer. -/
theorem c_join (c : Dev nD) (f₀ : (cc0_scratch2 : Ref sig .tc).ty.Contents (Elt F)) : (bigSep (Finset.univ : Finset (Fin 16)) fun j => iprop(∃ f, cPts (F := F) c j f))
    ⊢ (iprop(∃ f : Buf (Elt F) ((c : Thread nD τ).loc cc0_scratch2), ((c : Thread nD τ).loc cc0_scratch2) ↦{fullShare} f) : sProp 𝕄) := by
  haveI : ∀ j : Fin 16, Nonempty (Buf (Elt F) ((cSlot j).view.loc (c : Thread nD τ))) := fun _ => ⟨f₀⟩
  iintro H
  ihave H := (BI.bigSep_exists_pi Finset.univ (fun (j : Fin 16) (f : Buf (Elt F) ((cSlot j).view.loc (c : Thread nD τ))) => (cPts c j f : sProp 𝕄))) $$ H
  icases H with ⟨%fs, H⟩
  have e : (bigSep (Finset.univ : Finset (Fin 16)) fun j => (cPts c j (fs j) : sProp 𝕄))
      = bigSep (Finset.univ : Finset (Fin 16)) fun j => cmM.view.loc (c : Thread nD τ) ↦[(slotR j).set]{fullShare} fs j :=
    bigSep_congr fun j _ => by rw [← cSlot_set]
  have h := pointsTo_biUnion_join (Ix := Unit) (Name := ℕ) (U := UU) (Lvl := ℕ) (ℓ := cmM.view.loc (c : Thread nD τ)) (q := fullShare)
    Finset.univ (fun j : Fin 16 => (slotR j).set) fs f₀ slots_disjoint
  rw [slots_cover] at h
  ihave H := (Entails.of_eq e) $$ H
  ihave H := h $$ H
  icases H with ⟨%g, -, H⟩
  iexists g
  iexact H

/-! ## What a device has at the start of its kernel -/

/-- The tokens, positions and credit of round `r`. -/
def amT (c : Dev nD) (r : Fin 4) : sProp 𝕄 :=
  iprop(dutyTok ER (cell c (.asn r)) 0 (0 : Fin 16) ∗ dutyTok ER (cell (mate c r) (.arv r)) 0 (0 : Fin 16)
    ∗ atPos ER (cell c (.asn r)) 0 (∅ : Finset (Fin 16)) 0
    ∗ atPos ER (cell c (.arv r)) 0 (∅ : Finset (Fin 16)) 0 ∗ cred (tallyAt (cell c (.arv r)) () M))

/-- Everything but the buffers. -/
def start (c : Dev nD) : sProp 𝕄 :=
  iprop(ctx m ∗ (left (fun i => dutyTok ER (cell (peer c (15 - i)) .bar) 0 c) 15 ∗ left (tokL c) 15)
    ∗ (atPos ER (cell c .bar) 0 (∅ : Finset (Fin 16)) 0 ∗ cred (tallyAt (cell c .bar) () 15))
    ∗ left (rcvL c) 15 ∗ left (depA c) 15 ∗ (bigSep (Finset.univ : Finset (Fin 4)) (amT c))
    ∗ semVal (cell c (.snd c)) 0 ∗ semVal (cell c (.rcv c)) 0)

theorem no_duties (c : Dev nD) {k : Kind} (h : dutiesOf c k = ∅) : ∀ r, 0 ≤ r → (sch m).duties (cell c k) r = ∅ := fun r _ => by
  rcases Nat.eq_zero_or_pos r with rfl | hr
  · rw [duties_cell, h]
  · exact duties_later m _ r hr

/-- A semaphore nobody raises is the device's again. -/
theorem unused (c : Dev nD) (k : Kind) (hk : k ≠ .other) (h : dutiesOf c k = ∅) :
    iprop(ctx m ∗ atPos ER (cell c k) 0 (∅ : Finset (Fin 16)) 0) ⊢ |={Set.univ}=> (semVal (cell c k) 0 : sProp 𝕄) := by
  iintro ⟨#Hc, Hat⟩
  ihave #Hh := (ctx_here m c hk) $$ Hc
  unfold here
  icases Hh with ⟨%κ, #Hi, -⟩
  iapply (Rounds.cell_close ER (sch m) (Set.mem_univ κ) (fun h => h) (R := 0) (no_duties m c h))
  isplitr; · iexact Hi
  iexact Hat

theorem rcvL_join (c : Dev nD) : left (rcvL (F := F) c) 15
    = iprop((bigSep (Finset.univ.erase c) fun j : Fin 16 => atPos ER (cell c (.rcv j)) 0 (∅ : Finset (Fin 16)) 0)
      ∗ bigSep (Finset.univ.erase c) fun j : Fin 16 => cred (tallyAt (cell c (.rcv j)) () N)) := by
  rw [← left_backs c (fun j => atPos ER (cell c (.rcv j)) 0 (∅ : Finset (Fin 16)) 0), ← left_backs c (fun j => cred (tallyAt (cell c (.rcv j)) () N))]
  show bigSep (Finset.range 15) (rcvL c) = iprop(bigSep (Finset.range 15) _ ∗ bigSep (Finset.range 15) _)
  rw [← bigSep_sep' (Finset.range 15)]
  rfl

theorem ats_split (c : Dev nD) : (ats c : sProp 𝕄)
    = iprop(atPos ER (cell c .bar) 0 (∅ : Finset (Fin 16)) 0
      ∗ ((atPos ER (cell c (.snd c)) 0 (∅ : Finset (Fin 16)) 0 ∗ left (depA c) 15)
        ∗ (atPos ER (cell c (.rcv c)) 0 (∅ : Finset (Fin 16)) 0 ∗ bigSep (Finset.univ.erase c) fun j : Fin 16 => atPos ER (cell c (.rcv j)) 0 (∅ : Finset (Fin 16)) 0))
      ∗ (bigSep (Finset.univ : Finset (Fin 4)) fun r => atPos ER (cell c (.asn r)) 0 (∅ : Finset (Fin 16)) 0)
      ∗ bigSep (Finset.univ : Finset (Fin 4)) fun r => atPos ER (cell c (.arv r)) 0 (∅ : Finset (Fin 16)) 0) := by
  unfold ats
  rw [bigSep_univ_sum, bigSep_univ_of_subsingleton (), four_kinds,
    show left (depA (F := F) c) 15 = bigSep (Finset.univ.erase c) fun j : Fin 16 => atPos ER (cell c (.snd j)) 0 (∅ : Finset (Fin 16)) 0
      from left_peers c (fun j => atPos ER (cell c (.snd j)) 0 (∅ : Finset (Fin 16)) 0),
    ← take_out (Finset.mem_univ c) (fun j : Fin 16 => atPos ER (cell c (.snd j)) 0 (∅ : Finset (Fin 16)) 0),
    ← take_out (Finset.mem_univ c) (fun j : Fin 16 => atPos ER (cell c (.rcv j)) 0 (∅ : Finset (Fin 16)) 0)]
  rfl

theorem amT_join (c : Dev nD) : iprop((bigSep (Finset.univ : Finset (Fin 4)) fun r => iprop(dutyTok ER (cell c (.asn r)) 0 (0 : Fin 16) ∗ dutyTok ER (cell (mate c r) (.arv r)) 0 (0 : Fin 16)))
      ∗ (bigSep (Finset.univ : Finset (Fin 4)) fun r => atPos ER (cell c (.asn r)) 0 (∅ : Finset (Fin 16)) 0)
      ∗ (bigSep (Finset.univ : Finset (Fin 4)) fun r => atPos ER (cell c (.arv r)) 0 (∅ : Finset (Fin 16)) 0)
      ∗ (bigSep (Finset.univ : Finset (Fin 4)) fun r => cred (tallyAt (cell c (.arv r)) () M)))
    ⊢ (bigSep (Finset.univ : Finset (Fin 4)) (amT c) : sProp 𝕄) := by
  rw [← bigSep_sep', ← bigSep_sep', ← bigSep_sep']
  have h (r : Fin 4) : iprop((dutyTok ER (cell c (.asn r)) 0 (0 : Fin 16) ∗ dutyTok ER (cell (mate c r) (.arv r)) 0 (0 : Fin 16))
      ∗ atPos ER (cell c (.asn r)) 0 (∅ : Finset (Fin 16)) 0 ∗ atPos ER (cell c (.arv r)) 0 (∅ : Finset (Fin 16)) 0 ∗ cred (tallyAt (cell c (.arv r)) () M))
      ⊢ (amT c r : sProp 𝕄) := by
    unfold amT
    iintro ⟨⟨H1, H2⟩, H3⟩
    isplitl [H1]; · iexact H1
    isplitl [H2]; · iexact H2
    iexact H3
  exact bigSep_mono fun r _ => h r

theorem start_intro (c : Dev nD) :
    iprop(Pipeline.unscopedRestP Pipeline.Prefetch.none cfg0.spec c (fun b => m ((c : Thread nD τ).loc b)) ∗ levAts L lv
        ∗ Pipeline.launchCred (fun d => oweB d 15) c ∗ prngReg c (ρ c) ∗ G' m c)
      ⊢ |={Set.univ}=> iprop(start m c ∗ emp) := by
  unfold G' mine
  rw [creds, ats_split]
  iintro ⟨-, Hlev, ⟨⟨HcA, HcR⟩, HcB⟩, -, Hh, ⟨HaB, ⟨⟨HaS, HaSs⟩, HaR, HaRs⟩, HaA, HaV⟩, HtB, HtL, HtA⟩
  ihave #Hctx : ctx m $$ [Hlev Hh]
  · unfold ctx
    isplitl [Hh]; · iexact Hh
    iexact Hlev
  imod (unused m c (.snd c) (by simp) (if_pos rfl)) $$ [HaS] with HzS
  · isplitr; · iexact Hctx
    iexact HaS
  imod (unused m c (.rcv c) (by simp) (if_pos rfl)) $$ [HaR] with HzR
  · isplitr; · iexact Hctx
    iexact HaR
  imodintro
  isplitl
  · unfold start
    isplitr; · iexact Hctx
    isplitl [HtB HtL]
    · isplitl [HtB]; · iexact HtB
      iexact HtL
    isplitl [HaB HcB]
    · isplitl [HaB]; · iexact HaB
      iexact HcB
    isplitl [HaRs HcR]
    · rw [rcvL_join]
      isplitl [HaRs]; · iexact HaRs
      iexact HcR
    isplitl [HaSs]; · iexact HaSs
    isplitl [HtA HaA HaV HcA]
    · iapply (amT_join c)
      isplitl [HtA]; · iexact HtA
      isplitl [HaA]; · iexact HaA
      isplitl [HaV]; · iexact HaV
      iexact HcA
    isplitl [HzS]; · iexact HzS
    iexact HzR
  · iempintro

/-! ## With its buffers -/

/-- What a device holds besides its staged inputs and result: before the kernel, and after. -/
def Φ₀ (c : Dev nD) : sProp 𝕄 :=
  iprop(ctx m ∗ left (sigL c) 15 ∗ (atPos ER (cell c .bar) 0 (∅ : Finset (Fin 16)) 0 ∗ cred (tallyAt (cell c .bar) () 15))
    ∗ (∃ f, xbPts c f) ∗ left (tokL c) 15 ∗ (∃ f, wbPts c f) ∗ left (rcvL c) 15 ∗ left (depA c) 15
    ∗ bigSep (Finset.univ : Finset (Fin 4)) (amL c) ∗ owned c)
def Φ₁ (c : Dev nD) : sProp 𝕄 :=
  iprop((exchD m c 0 ∗ exchD m c 1 ∗ exchD m c 2 ∗ exchD m c 3) ∗ done (depD m c) 0 ∗ wbPts c (wval m c) ∗ done (rcvD m c) 0
    ∗ xPts c c (xval m c) ∗ semVal (cell c .bar) 0 ∗ owned c)

theorem mate_iff (c d : Dev nD) (r : Fin 4) : (c = mate d r) ↔ (d = mate c r) :=
  ⟨fun h => by rw [h, mate_mate], fun h => by rw [h, mate_mate]⟩

/-- The places a device hands out with its signals: all of those for blocks but its own, and all of those for
    maxima. -/
theorem bar_gather (c : Dev nD) : bigSep (Finset.univ.erase c) (fun d : Fin 16 => barPay (F := F) d c)
    = iprop((bigSep (Finset.univ.erase c) fun d : Fin 16 => iprop(∃ f, cPts (F := F) c d f))
      ∗ bigSep (Finset.univ : Finset (Fin 4)) fun r => iprop(∃ f, rPts (F := F) c r f)) := by
  have h (r : Fin 4) : (bigSep (Finset.univ.erase c) fun d : Fin 16 => if c = mate d r then iprop(∃ f, rPts (F := F) c r f) else iprop(emp))
      = iprop(∃ f, rPts (F := F) c r f) := by
    simp only [mate_iff c _ r]
    exact only_at (Finset.mem_erase.mpr ⟨mate_ne c r, Finset.mem_univ _⟩) (fun _ : Fin 16 => iprop(∃ f, rPts (F := F) c r f))
  unfold barPay
  simp only [four]
  rw [bigSep_sep' (Finset.univ.erase c), bigSep_sep' (Finset.univ.erase c), bigSep_sep' (Finset.univ.erase c), bigSep_sep' (Finset.univ.erase c),
    h 0, h 1, h 2, h 3]

theorem sigL_join (c : Dev nD) : left (sigL (F := F) c) 15
    = iprop(left (fun i => dutyTok ER (cell (peer c (15 - i)) .bar) 0 c) 15
      ∗ (bigSep (Finset.univ.erase c) fun d : Fin 16 => iprop(∃ f, cPts (F := F) c d f))
      ∗ bigSep (Finset.univ : Finset (Fin 4)) fun r => iprop(∃ f, rPts (F := F) c r f)) := by
  rw [← bar_gather, ← left_peers c (fun d => barPay d c)]
  show bigSep (Finset.range 15) (sigL c) = iprop(bigSep (Finset.range 15) _ ∗ bigSep (Finset.range 15) _)
  rw [← bigSep_sep' (Finset.range 15)]
  rfl

theorem amL_join (c : Dev nD) : bigSep (Finset.univ : Finset (Fin 4)) (amL (F := F) c)
    = iprop((bigSep (Finset.univ : Finset (Fin 4)) fun r => iprop(∃ f, sPts (F := F) c r f)) ∗ bigSep (Finset.univ : Finset (Fin 4)) (amT c)) := by
  rw [← bigSep_sep']; rfl

theorem phi0 (c : Dev nD) : iprop(start m c ∗ Pipeline.scopedRest cfg0.spec c) ⊢ Φ₀ m c := by
  rw [show (Pipeline.scopedRest cfg0.spec c : sProp 𝕄) = _ from scopedRest0_eq c]
  unfold start Φ₀ owned
  rw [sigL_join, amL_join]
  iintro ⟨⟨Hctx, ⟨HtB, HtL⟩, Hbar, HR, HD, HA, HzS, HzR⟩, ⟨%f0, H0⟩, ⟨%f1, H1⟩, ⟨%f2, H2⟩, ⟨%f3, H3⟩, ⟨%f4, H4⟩⟩
  ihave H2 := (Entails.of_eq (c_slots c f2)) $$ H2
  ihave H2 := (Entails.of_eq (take_out (Finset.mem_univ c) (fun j : Fin 16 => cPts c j f2))) $$ H2
  icases H2 with ⟨H2c, H2⟩
  ihave H3 := (Entails.of_eq (s_slots c f3)) $$ H3
  ihave H4 := (Entails.of_eq (r_slots c f4)) $$ H4
  isplitl [Hctx]; · iexact Hctx
  isplitl [HtB H2 H4]
  · isplitl [HtB]; · iexact HtB
    isplitl [H2]
    · iapply (some_c c f2); iexact H2
    · iapply (some_r c f4); iexact H4
  isplitl [Hbar]; · iexact Hbar
  isplitl [H0]; · iexists f0; iexact H0
  isplitl [HtL]; · iexact HtL
  isplitl [H1]; · iexists f1; iexact H1
  isplitl [HR]; · iexact HR
  isplitl [HD]; · iexact HD
  isplitl [HA H3]
  · isplitl [H3]
    · iapply (some_s c f3); iexact H3
    iexact HA
  isplitl [H2c]; · iexists f2; iexact H2c
  isplitl [HzS]; · iexact HzS
  iexact HzR

theorem dep_split (c : Dev nD) : done (depD m c) 0
    = iprop((bigSep (Finset.univ.erase c) fun j : Fin 16 => semVal (cell c (.snd j)) 0) ∗ bigSep (Finset.univ.erase c) fun j : Fin 16 => xPts c j (xval m c)) := by
  rw [done_all, ← left_peers c (fun j => semVal (cell c (.snd j)) 0), ← left_peers c (fun j => xPts c j (xval m c))]
  show bigSep (Finset.range 15) (depD m c) = iprop(bigSep (Finset.range 15) _ ∗ bigSep (Finset.range 15) _)
  rw [← bigSep_sep' (Finset.range 15)]
  rfl
theorem rcv_split (c : Dev nD) : done (rcvD m c) 0
    = iprop((bigSep (Finset.univ.erase c) fun j : Fin 16 => semVal (cell c (.rcv j)) 0) ∗ bigSep (Finset.univ.erase c) fun j : Fin 16 => cPts c j (cval m c)) := by
  rw [done_all, ← left_backs c (fun j => semVal (cell c (.rcv j)) 0), ← left_backs c (fun j => cPts c j (cval m c))]
  show bigSep (Finset.range 15) (rcvD m c) = iprop(bigSep (Finset.range 15) _ ∗ bigSep (Finset.range 15) _)
  rw [← bigSep_sep' (Finset.range 15)]
  rfl
theorem exch_split (c : Dev nD) : iprop(exchD m c 0 ∗ exchD m c 1 ∗ exchD m c 2 ∗ exchD m c 3)
    = iprop((((c : Thread nD τ).loc cc0_scratch4) ↦{fullShare} rval m c)
      ∗ (bigSep (Finset.univ : Finset (Fin 4)) fun r => semVal (cell c (.arv r)) 0)
      ∗ (bigSep (Finset.univ : Finset (Fin 4)) fun r => semVal (cell c (.asn r)) 0)
      ∗ (((c : Thread nD τ).loc cc0_scratch3) ↦{fullShare} sval m c)) := by
  rw [← four (exchD m c), r_slots, s_slots, ← bigSep_sep', ← bigSep_sep', ← bigSep_sep']
  rfl

theorem phi1 (c : Dev nD) : Φ₁ m c ⊢ iprop(unscopedSems0 c ∗ Pipeline.ownSems0 osem c ∗ Pipeline.scopedRest cfg0.spec c) := by
  have hu : (unscopedSems0 c : sProp 𝕄) = semVal (cell c .bar) 0 := by
    unfold unscopedSems0; rw [bigSep_eq_bigSepL_of_eq [SemLoc.reg barS] (by decide) (by decide)]; rfl
  have ho : (Pipeline.ownSems0 osem c : sProp 𝕄) = _ := four_kinds (fun x => semVal (cell c (ownKind x)) 0)
  have hs := take_out (Finset.mem_univ c) (fun j : Fin 16 => (semVal (cell c (.snd j)) 0 : sProp 𝕄))
  have hr := take_out (Finset.mem_univ c) (fun j : Fin 16 => (semVal (cell c (.rcv j)) 0 : sProp 𝕄))
  rw [show (Pipeline.scopedRest cfg0.spec c : sProp 𝕄) = _ from scopedRest0_eq c, hu, ho]
  unfold Φ₁ owned
  rw [dep_split, rcv_split, exch_split]
  iintro ⟨⟨H4, HzV, HzA, H3⟩, ⟨HzSs, Hxs⟩, Hw, ⟨HzRs, Hcs⟩, Hx, HzB, ⟨%f, Hc⟩, HzS, HzR⟩
  isplitl [HzB]; · iexact HzB
  isplitl [HzV HzA HzSs HzRs HzS HzR]
  · isplitl [HzSs HzRs HzS HzR]
    · isplitl [HzSs HzS]
      · iapply (Entails.of_eq hs.symm)
        isplitl [HzS]; · iexact HzS
        iexact HzSs
      · iapply (Entails.of_eq hr.symm)
        isplitl [HzR]; · iexact HzR
        iexact HzRs
    · isplitl [HzA]; · iexact HzA
      iexact HzV
  isplitl [Hx Hxs]
  · iexists (xval m c)
    iapply (Entails.of_eq (x_rows c (xval m c)).symm)
    iapply (Entails.of_eq (take_out (Finset.mem_univ c) (fun j : Fin 16 => xPts c j (xval m c))).symm)
    isplitl [Hx]; · iexact Hx
    iexact Hxs
  isplitl [Hw]; · iexists (wval m c); iexact Hw
  isplitl [Hc Hcs]
  · iapply (c_join c (cval m c))
    iapply (Entails.of_eq (take_out (Finset.mem_univ c) (fun j : Fin 16 => iprop(∃ f, cPts (F := F) c j f))).symm)
    isplitl [Hc]; · iexists f; iexact Hc
    iapply (some_c c (cval m c)); iexact Hcs
  isplitl [H3]; · iexists (sval m c); iexact H3
  iexists (rval m c); iexact H4

end Cert.KernelIdealProof

end
-- ==== Proof.Run.lean ====
/-
# The run of the whole program

The program on all devices, launched from any memory: it terminates, the arguments are unchanged, every result is as
stated, and every semaphore is at zero.
-/
module

public import proofs.«01_k».proof.Proof.Launch
public import proofs.«01_k».proof.Proof.Gen.KernelIdeal.Points
public import Idealize.ShloMosaic.Lib.Pipeline.Launch
public import Idealize.ShloMosaic.Lib.Pipeline.Kit
public import Idealize.ShloMosaic.Lib.Pipeline.CollectiveSegs

@[expose] public section

set_option maxRecDepth 20000

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: any contents, every semaphore at zero, any generator registers. -/
def s₀ : MemSt nD τ sig (Elt F) := ⟨m, fun _ => 0, ρ⟩

/-- The proof data of the one kernel: what its windows hold after it, what it owes before and after. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => wstg m c
    | ⟨2, _⟩ => outv m c
  Φ t := match t with
    | ⟨0, _⟩ => Φ₀ m c
    | ⟨_ + 1, _⟩ => Φ₁ m c
  q _ := fullShare
  owed t := match t with
    | ⟨0, _⟩ => oweB c 15
    | ⟨_ + 1, _⟩ => 0

theorem fetch_x (t : Fin cfg0.N) : (cfg0.win (0 : Fin 3)).fetch t = true := fetch0_0 t
theorem fetch_w (t : Fin cfg0.N) : (cfg0.win (1 : Fin 3)).fetch t = true := fetch0_1 t

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def bodyPost (c : Dev nD) : sProp 𝕄 :=
  iprop(Φ₁ m c ∗ (dats m ρ 0 c).owesAt () t0_0.succ ∗ stg c cc0_stg0_0 (xstg m c) ∗ stg c cc0_stg1_0 (wstg m c) ∗ stg c cc0_stg2_0 (outv m c))

theorem enter (c : Dev nD) : bodyPre m ρ c ⊢ before m c := by
  unfold bodyPre before Φ₀ BS owe
  iintro ⟨⟨Hctx, Hsig, Hbar, Hxb, HtL, Hwb, HR, HD, HA, Hown⟩, Ho, ⟨%d0, %g0, %hg0, Hx⟩, ⟨%d1, %g1, %hg1, Hw⟩, ⟨%d2, %g2, %hg2, Hout⟩⟩
  have hx : g0 = xstg m c := by rw [hg0]; unfold Dat.before; rw [if_pos (fetch_x t0_0)]; rfl
  have hw : g1 = wstg m c := by rw [hg1]; unfold Dat.before; rw [if_pos (fetch_w t0_0)]; rfl
  subst hx hw
  unfold Dat.owesAt Pipeline.owesWithin
  icases Ho with ⟨%W, %hW, HO⟩
  isplitl [Hctx]; · iexact Hctx
  isplitl [HO]
  · iexists W
    rw [show (dats m ρ 0 c).owed t0_0.castSucc = oweB c 15 from rfl]
    iexact HO
  isplitl [Hsig]; · iexact Hsig
  isplitl [Hbar]; · iexact Hbar
  isplitl [Hx]; · iexact Hx
  isplitl [Hxb]; · iexact Hxb
  isplitl [HtL]; · iexact HtL
  isplitl [Hw]; · iexact Hw
  isplitl [Hwb]; · iexact Hwb
  isplitl [Hout]; · iexists g2; iexact Hout
  isplitl [HR]; · iexact HR
  isplitl [HD]; · iexact HD
  isplitl [HA]; · iexact HA
  iexact Hown

theorem leave (c : Dev nD) : after m c ⊢ bodyPost m ρ c := by
  unfold bodyPost after XS owe rest Φ₁
  iintro ⟨-, ⟨%W, HO⟩, Ho, H3, H2, H1, H0, HD, Hwb, HR, Hxc, Hw, HzB, Hx, Hown⟩
  unfold Dat.owesAt Pipeline.owesWithin
  rw [show (dats m ρ 0 c).owed t0_0.succ = 0 from rfl, oweA_zero]
  isplitl [H3 H2 H1 H0 HD Hwb HR Hxc HzB Hown]
  · isplitl [H3 H2 H1 H0]
    · isplitl [H0]; · iexact H0
      isplitl [H1]; · iexact H1
      isplitl [H2] <;> iassumption
    isplitl [HD]; · iexact HD
    isplitl [Hwb]; · iexact Hwb
    isplitl [HR]; · iexact HR
    isplitl [Hxc]; · iexact Hxc
    isplitl [HzB]; · iexact HzB
    iexact Hown
  isplitl [HO]
  · iexists W
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Ho

/-- The kernel on device `c`, from what the pipeline hands it to what it takes back. -/
theorem body_obligation (c : Dev nD) : BodyObligation (dats (F := F) m ρ 0 c) (defs₀ (F := F)) 𝒱₀ () Set.univ := fun t => by
  rw [fin_N0 t]
  rw [show (bigSep (Finset.univ : Finset (Fin cfg0.W)) : (Fin cfg0.W → sProp 𝕄) → sProp 𝕄) = fun Φ => _ from funext fun Φ => bigSep_W0 Φ]
  simp only [owns_whole_eq]
  show bodyPre m ρ c ⊢ run c (At (cc0_body (F := F))) (fun _ => bodyPost m ρ c)
  exact BIBase.Entails.trans (enter m ρ c) (body_run m c (leave m ρ c))

/-! ## The launch -/

theorem ownSemFacts : Pipeline.OwnSemFacts cfg0.spec osem where
  isScoped := by decide +kernel
  inj := fun x y h => ownKind_injective (by rw [← kind_loc (ownKind x), ← kind_loc (ownKind y)]; exact congrArg kind h)
  disj := by decide +kernel

theorem share_eq (c : Dev nD) (w : Fin cfg0.W) : (dats m ρ 0 c).share w = fullShare := by unfold Dat.share; split <;> rfl

def u₀ : UU :=
  (initOf (Pipeline.cells cfgs cellOf_inj) (Pipeline.launchToks cfgs cellOf_inj), initOf allCells allToks)

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  iintro ⟨Hs, -, Hr⟩
  iapply (phi0 m c)
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m c from rfl]
  exact phi1 m c

theorem waits (c : Dev nD) : (levAts L lv : sProp 𝕄) ⊢ Pipeline.cellsWaits cfgs (dats m ρ) () 0 c :=
  Pipeline.cellsWaits_intro cfgs (dats m ρ) () 0 c fun w s t =>
    mayWait c _ (by
      rw [show level (kind (SemLoc.dma ((cfg0.win w).sem s))) = 0 from by
        revert w s; decide +kernel]
      rcases t with ⟨_ | _, ht⟩
      · exact above_B c 15 0 (by omega)
      · exact above_zero 0)

/-- What device `c`'s arrays hold at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- From any memory with every semaphore at zero, for any float values: the program terminates on all sixteen devices,
    each array ends at the contents stated, and every semaphore ends at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := block_pos0) (harr := arr_whole0) (hstage := stage_whole0) (hshare := share_eq m ρ)
    (hdistinct := winFacts0.arr_inj)
    (O₀ := fun d => oweB d 15) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem finalA_x (c : Dev nD) : finalA m ρ c (0 : Fin 3) = m ((c : Thread nD τ).loc main_arg0) := (dats (F := F) m ρ 0 c).arrAt_in (0 : Fin 3) rfl _
theorem finalA_w (c : Dev nD) : finalA m ρ c (1 : Fin 3) = m ((c : Thread nD τ).loc main_arg1) := (dats (F := F) m ρ 0 c).arrAt_in (1 : Fin 3) rfl _

/-- The result array ends at the kernel's result. -/
theorem finalA_o (c : Dev nD) : finalA m ρ c (2 : Fin 3) = outv m c := by
  unfold finalA
  rw [show cfg0.N = ((0 : Fin 1) : Fin cfg0.N).val + 1 from rfl, (dats m ρ 0 c).arrAt_succ (2 : Fin 3) (0 : Fin 1)]
  rw [show (cfg0.win (2 : Fin 3)).flush (0 : Fin 1) = true from flush0_2 _, if_pos rfl]
  have hz : (fun a => (win0_2.index (0 : Fin 1)) a * main_v1.ty.shape.size a) = fun _ => 0 :=
    funext fun a => by fin_cases a <;> decide
  have hr := fun f => Memref.read_access_unit_zero (Elt F) main_v1 hz (fun a => by fin_cases a <;> decide) f
  exact (hr _).symm.trans (View.read_write_univ _ _)

end Cert.KernelIdealProof

end
-- ==== Proof.Same.lean ====
/-
# One run for both programs

The program at the float words and the program over the reals have the same text: they are equal, for any float values.
-/
module

public import proofs.«01_k».proof.Proof.Run
public import proofs.«01_k».proof.Proof.Gen.Kernel.Points
public import proofs.«01_k».proof.Defs

@[expose] public section

set_option maxRecDepth 20000

noncomputable section

namespace Cert.KernelIdealProof

open Idealize.ShloMosaic Idealize.SL.Sem

variable {F : FTy → Type} [FloatOps F]

/-- The kernels' body tables agree. -/
theorem defs₀_same : Kernel.defs₀ (F := F) = KernelIdeal.defs₀ (F := F) := by
  unfold Kernel.defs₀ KernelIdeal.defs₀
  refine congrArg (Defs.onTc (nD := KernelIdeal.nD) (τ := KernelIdeal.τ) (sig := KernelIdeal.sig) (Val := Elt F) (Λ := KernelIdeal.Λ₀)) (funext fun l => ?_)
  rcases l with ⟨_ | n, h⟩
  · exact funext fun ⟨t, s⟩ => rfl
  · exact absurd h (by omega)

/-- The whole body tables agree. -/
theorem defs_same : Kernel.defs (F := F) = KernelIdeal.defs (F := F) :=
  congrArg (Pipeline.defs (KernelIdeal.pcfgs (F := F))) defs₀_same

end Cert.KernelIdealProof

end
-- ==== Proof.Numbers.lean ====
/-
# The quantiser over the reals

What the float8 quantiser does to one number, the number being at most the largest one in size: the clip to ±448 changes
nothing, and 0 and the infinities agree too.
-/
module

public import Idealize.ShloMosaic.PureOps.Ideal.Laws
public import Mathlib.Data.EReal.Inv

@[expose] public section

noncomputable section

namespace Cert.Numbers

open Idealize.ShloMosaic

/-- The word of 448. -/
theorem word_448 : Ideal.ofBits .f32 0x43E00000#32 = ((448 : ℝ) : EReal) := by
  simp [Ideal.ofBits, Ideal.ieee]
  rw [← EReal.coe_mul, EReal.coe_eq_coe_iff]
  norm_num
/-- The word of -448. -/
theorem word_neg_448 : Ideal.ofBits .f32 0xC3E00000#32 = ((-448 : ℝ) : EReal) := by
  simp [Ideal.ofBits, Ideal.ieee]
  rw [← EReal.coe_mul, EReal.coe_eq_coe_iff]
  norm_num
/-- The word of -∞. -/
theorem word_bot : Ideal.ofBits .f32 0xFF800000#32 = ⊥ := by
  simp [Ideal.ofBits, Ideal.ieee]

/-- The scale of the quantiser: the largest size over 448. -/
def scaleOf (M : EReal) : EReal := Ideal.div M ((448 : ℝ) : EReal)

theorem scaleOf_coe (M : ℝ) : scaleOf (M : EReal) = ((M / 448 : ℝ) : EReal) := by
  unfold scaleOf
  rw [Ideal.div_coe (by norm_num), ← EReal.coe_mul]
  congr 1; ring

theorem scaleOf_top : scaleOf ⊤ = ⊤ := by
  unfold scaleOf
  rw [Ideal.div_coe (by norm_num)]
  exact EReal.top_mul_coe_of_pos (by norm_num)

/-- Clipping `y` over the scale to ±448 before multiplying by the scale changes nothing, `y` being at most `M` in size. -/
theorem clip_scale (y M : EReal) (h : max y (-y) ≤ M) :
    min ((448 : ℝ) : EReal) (max ((-448 : ℝ) : EReal) (Ideal.div y (scaleOf M))) * scaleOf M = Ideal.div y (scaleOf M) * scaleOf M := by
  have h1 : y ≤ M := le_trans (le_max_left _ _) h
  have h2 : -y ≤ M := le_trans (le_max_right _ _) h
  induction M with
  | bot =>
    exfalso
    have e1 : y = ⊥ := le_bot_iff.mp h1
    rw [e1] at h2; simp at h2
  | top =>
    rw [scaleOf_top]
    have e : Ideal.div y ⊤ = 0 := by
      unfold Ideal.div; rw [if_neg (by simp)]; simp
    rw [e]
    have e2 : max ((-448 : ℝ) : EReal) 0 = 0 := max_eq_right (by exact_mod_cast (by norm_num : (-448 : ℝ) ≤ 0))
    rw [e2, min_eq_right (by exact_mod_cast (by norm_num : (0 : ℝ) ≤ 448))]
  | coe M =>
    induction y with
    | bot => simp at h2
    | top => simp at h1
    | coe y =>
      have g1 : y ≤ M := by exact_mod_cast h1
      have g2 : -y ≤ M := by exact_mod_cast h2
      rw [scaleOf_coe]
      by_cases hM : M = 0
      · subst hM; simp
      · have hp : 0 < M := lt_of_le_of_ne (by linarith) (Ne.symm hM)
        have hs : M / 448 ≠ 0 := by positivity
        rw [Ideal.div_coe hs, ← EReal.coe_mul]
        have hq : y * (1 / (M / 448)) = 448 * (y / M) := by field_simp
        rw [hq]
        have b1 : 448 * (y / M) ≤ 448 := by
          have : y / M ≤ 1 := (div_le_one hp).mpr g1
          linarith
        have b2 : -448 ≤ 448 * (y / M) := by
          have : -1 ≤ y / M := by rw [le_div_iff₀ hp]; linarith
          linarith
        rw [max_eq_right (by exact_mod_cast b2), min_eq_right (by exact_mod_cast b1)]

/-- A fold of `max` from -∞ is the supremum. -/
theorem fold_max_eq_sup {ι : Type} (s : Finset ι) (f : ι → EReal) : s.fold max ⊥ f = s.sup f := by
  rfl

/-- A sum over 4096 terms, cut into sixteen runs of 256. -/
theorem sum_runs (f : Fin 4096 → EReal) :
    ∑ k, f k = ∑ b : Fin 16, ∑ k : Fin 256, f ⟨256 * b.val + k.val, by omega⟩ := by
  rw [← Fintype.sum_prod_type' (f := fun (b : Fin 16) (k : Fin 256) => f ⟨256 * b.val + k.val, by omega⟩)]
  rw [← Equiv.sum_comp (finProdFinEquiv (m := 16) (n := 256)) (fun k : Fin (16 * 256) => f k)]
  refine Finset.sum_congr rfl fun p _ => congrArg f (Fin.ext ?_)
  simp [finProdFinEquiv, Nat.add_comm]

end Cert.Numbers

end
-- ==== Proof.Values.lean ====
/-
# What the kernel computes over the reals

The sixteen products that device `c` adds up are its rows of the whole product, the four exchanges spread the largest
size in the whole product to every device, and the result is each number over the scale, times the scale.
-/
module

public import proofs.«01_k».proof.Proof.Rounds
public import proofs.«01_k».proof.Proof.Numbers
public import Idealize.ShloMosaic.Lib.MatmulPlain
public import Idealize.ShloMosaic.Lib.Layout
public import Idealize.ShloMosaic.Lib.ValueLayout
public import Idealize.ShloMosaic.Lib.Pipeline.Value
public import Idealize.ShloMosaic.PureOps.Reduce

@[expose] public section

set_option maxRecDepth 20000

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open Cert.Numbers

/-! ## The mathematics of the whole arrays -/

/-- The whole product. -/
def product (X : (⟨2, ![4096, 4096]⟩ : Shape).Idx → EReal) (W : (⟨2, ![4096, 2048]⟩ : Shape).Idx → EReal) :
    (⟨2, ![4096, 2048]⟩ : Shape).Idx → EReal := fun i => ∑ k : Fin 4096, X (ix2 (i 0) k) * W (ix2 k (i 1))

/-- The largest size in an array. -/
def largest {s : Shape} (Y : s.Idx → EReal) : EReal := ⨆ i, max (Y i) (-(Y i))

/-- An array through the quantiser and back. -/
def requantised {s : Shape} (Y : s.Idx → EReal) (M : EReal) : s.Idx → EReal := fun i => Ideal.div (Y i) (scaleOf M) * scaleOf M

/-! ## The payloads -/

/-- The first product at an index. -/
theorem pay4_at (a : Vec Ideal S256x256 .bf16) (b : Vec Ideal S256x2048 .bf16) (r : Fin 256) (n : Fin 2048) :
    k0_pay4 (F := Ideal) a b (ix2 r n) = ∑ k : Fin 256, a (ix2 r k) * b (ix2 k n) := by
  unfold k0_pay4
  refine (Ideal.matmul_plain_apply (M := 256) (K := 256) (N := 2048) none a b _ r n).trans ?_
  show Ideal.ofBits .f32 0x00000000#32 + _ = _
  rw [Ideal.ofBits_zero_f32, zero_add]

/-- A later product at an index, added to the sum so far. -/
theorem pay7_at (v : Vec Ideal S256x2048 .f32) (a : Vec Ideal S1x256x256 .bf16) (b : Vec Ideal S256x2048 .bf16) (r : Fin 256) (n : Fin 2048) :
    k0_pay7 (F := Ideal) v a b (ix2 r n) = v (ix2 r n) + ∑ k : Fin 256, a (ix3 0 r k) * b (ix2 k n) := by
  unfold k0_pay7
  have e : shapeCast S256x2048 v shapeCasts_S256x2048_S256x2048 = v := shapeCast_self v _
  rw [e]
  show v (ix2 r n) + _ = _
  congr 1
  refine (Ideal.matmul_plain_apply (M := 256) (K := 256) (N := 2048) none _ b _ r n).trans ?_
  show Ideal.ofBits .f32 0x00000000#32 + _ = _
  rw [Ideal.ofBits_zero_f32, zero_add]
  refine Finset.sum_congr rfl fun k _ => ?_
  congr 1
  exact shapeCast_1ab_ab_apply a _ _ _

/-- A maximum of an array into one place is the supremum, whatever that place is called. -/
theorem reduce_at (v : Vec Ideal S1x256x2048 .f32) (j : S1.Idx) :
    multiReduction (F := Ideal) .maximumf [1, 2] S1 v 0xFF800000#32 reduces_S1x256x2048_S1 (.inl rfl) rfl j = ⨆ i, v i := by
  haveI : Std.Commutative (FloatOps.maximumf (F := Ideal) (φ := .f32)) := ⟨fun a b => max_comm (α := EReal) a b⟩
  haveI : Std.Associative (FloatOps.maximumf (F := Ideal) (φ := .f32)) := ⟨fun a b c => max_assoc (α := EReal) a b c⟩
  refine (multiReduction_maximumf_eq_fold (F := Ideal) v _ _ _ _ j).trans ?_
  have one : ∀ x y : S1.Idx, x = y := fun x y => funext fun a => Fin.ext (by
    match a with
    | ⟨0, _⟩ =>
      have hx : (x 0).val < 1 := (x 0).isLt
      have hy : (y 0).val < 1 := (y 0).isLt
      show (x 0).val = (y 0).val; omega)
  rw [Finset.filter_true_of_mem fun i _ => one _ _]
  show Finset.univ.fold max (Ideal.ofBits .f32 0xFF800000#32) v = _
  rw [word_bot, fold_max_eq_sup, Finset.sup_univ_eq_iSup]

/-- A change of shape moves no supremum. -/
theorem cast_iSup {s t : Shape} (hc : s.ShapeCasts t) (f : s.Idx → EReal) : (⨆ i, shapeCast t f hc i) = ⨆ i, f i :=
  Equiv.iSup_comp (g := f) (Shape.reshapeEquiv hc)

/-- Taking the one element of an array whose every element is `B` gives `B`. -/
theorem extract_const (w : Vec Ideal S1 .f32) (B : EReal) (hw : ∀ j, w j = B) :
    extractAt ![0, 0, 0] (shapeCast S1x1x1 w shapeCasts_S1_S1x1x1) inpos_S1x1x1_p0_0_0 = B := hw _

/-- The largest size of a device's block. -/
theorem pay24_at (v : Vec Ideal S256x2048 .f32) : k0_pay24 (F := Ideal) v = largest v := by
  unfold k0_pay24
  dsimp only
  refine extract_const _ _ fun j => ?_
  refine (reduce_at _ j).trans ?_
  refine (cast_iSup _ _).trans ?_
  have e : shapeCast S256x2048 v shapeCasts_S256x2048_S256x2048 = v := shapeCast_self v _
  rw [e]
  rfl

/-- The result from the scale and the sum. -/
theorem pay1_at (M : EReal) (v : Vec Ideal S256x2048 .f32) :
    k0_pay1 (F := Ideal) (Scalar.divf (F := Ideal) (φ := .f32) M (Scalar.ofBits .f32 0x43E00000#32)) v = requantised v M := by
  unfold k0_pay1
  dsimp only
  rw [shapeCast_self]
  funext i
  show Ideal.div (v i) (Ideal.div M (Ideal.ofBits .f32 0x43E00000#32)) * Ideal.div M (Ideal.ofBits .f32 0x43E00000#32) = _
  rw [word_448]; rfl

/-! ## The maximum over the devices -/

section Max
variable (m : (ℓ : Loc nD τ sig) → Buf (Elt Ideal) ℓ)

theorem amax_le (r : ℕ) (c : Dev nD) : (amax m r c : EReal) ≤ ⨆ d, (amax m 0 d : EReal) := by
  induction r generalizing c with
  | zero => exact le_iSup (fun d => (amax m 0 d : EReal)) c
  | succ r ih =>
    rw [amax_succ]
    exact max_le (ih c) (ih _)

theorem keep_le (r : ℕ) (c : Dev nD) (b : Bool) :
    (amax m r (if b then mate c (Fin.ofNat 4 r) else c) : EReal) ≤ amax m (r + 1) c := by
  rw [amax_succ]
  cases b
  · exact le_max_left _ _
  · exact le_max_right _ _

/-- Every device is four exchanges away from every other. -/
theorem four_steps : ∀ c d : Fin 16, ∃ b₀ b₁ b₂ b₃ : Bool,
    (let p₃ : Dev nD := if b₃ then mate c (Fin.ofNat 4 3) else c
     let p₂ : Dev nD := if b₂ then mate p₃ (Fin.ofNat 4 2) else p₃
     let p₁ : Dev nD := if b₁ then mate p₂ (Fin.ofNat 4 1) else p₂
     if b₀ then mate p₁ (Fin.ofNat 4 0) else p₁) = d := by decide +kernel

/-- After the four exchanges every device holds the largest of all. -/
theorem amax_all (c : Dev nD) : (amax m 4 c : EReal) = ⨆ d, (amax m 0 d : EReal) := by
  refine le_antisymm (amax_le m 4 c) (iSup_le fun d => ?_)
  obtain ⟨b₀, b₁, b₂, b₃, h⟩ := four_steps c d
  dsimp only at h
  rw [← h]
  exact ((keep_le m 0 _ b₀).trans (keep_le m 1 _ b₁)).trans ((keep_le m 2 _ b₂).trans (keep_le m 3 c b₃))

end Max

/-! ## The blocks -/

section Blocks
variable (m : (ℓ : Loc nD τ sig) → Buf (Elt Ideal) ℓ)
variable (X : (⟨2, ![4096, 4096]⟩ : Shape).Idx → EReal) (W : (⟨2, ![4096, 2048]⟩ : Shape).Idx → EReal)

/-- Device `c` is launched with block `c` of the columns of `X`, and with all of `W`. -/
def Launched : Prop := ∀ c : Dev nD,
  m ((c : Thread nD τ).loc main_arg0) = Layout.block ⟨2, ![4096, 256]⟩ ⟨2, ![4096, 4096]⟩ 1 16 c X
  ∧ m ((c : Thread nD τ).loc main_arg1) = W

variable {m X W} (h : Launched m X W)
include h

theorem xval_at (c : Dev nD) (r : Fin 4096) (k : Fin 256) : xval m c (ix2 r k) = X (ix2 r ⟨256 * c.val + k.val, by have : c.val < 16 := c.isLt; omega⟩) := by
  unfold xval xstg k0_pay2
  dsimp only
  rw [shapeCast_self, shapeCast_self]
  have hz : (fun a => (win0_0.index (0 : Fin 1)) a * main_arg0.ty.shape.size a) = fun _ => 0 :=
    funext fun a => by fin_cases a <;> decide
  have hr := fun f => Memref.read_access_unit_zero (Elt Ideal) main_arg0 hz (fun a => by fin_cases a <;> decide) f
  refine (congrFun (hr _) (ix2 r k)).trans ?_
  rw [(h c).1, Layout.block_apply]
  refine congrArg X (funext fun a => Fin.ext ?_)
  match a with
  | ⟨0, _⟩ => rfl
  | ⟨1, _⟩ => show c.val * 256 + k.val = 256 * c.val + k.val; omega

theorem wval_eq (c : Dev nD) : wval m c = W := by
  unfold wval wstg k0_pay3
  dsimp only
  rw [shapeCast_self, shapeCast_self]
  have hz : (fun a => (win0_1.index (0 : Fin 1)) a * main_arg1.ty.shape.size a) = fun _ => 0 :=
    funext fun a => by fin_cases a <;> decide
  have hr := fun f => Memref.read_access_unit_zero (Elt Ideal) main_arg1 hz (fun a => by fin_cases a <;> decide) f
  exact (hr _).trans (h c).2

theorem xrow_at (c : Dev nD) (r k : Fin 256) :
    xrow m c (ix2 r k) = X (ix2 ⟨256 * c.val + r.val, by have : c.val < 16 := c.isLt; omega⟩ ⟨256 * c.val + k.val, by have : c.val < 16 := c.isLt; omega⟩) := by
  rw [← xval_at h]
  refine congrArg (xval m c) (funext fun a => Fin.ext ?_)
  match a with
  | ⟨0, _⟩ => show 256 * c.val + 1 * r.val = 256 * c.val + r.val; omega
  | ⟨1, _⟩ => show 0 + 1 * k.val = k.val; omega

theorem wrow_at (c : Dev nD) (j : Fin 16) (k : Fin 256) (n : Fin 2048) :
    wrow m c j (ix2 k n) = W (ix2 ⟨256 * j.val + k.val, by omega⟩ n) := by
  unfold wrow
  rw [wval_eq h]
  refine congrArg W (funext fun a => Fin.ext ?_)
  match a with
  | ⟨0, _⟩ => show 256 * j.val + 1 * k.val = 256 * j.val + k.val; omega
  | ⟨1, _⟩ => show 0 + 1 * n.val = n.val; omega

theorem crow_at (c : Dev nD) (j : Fin 16) (r k : Fin 256) :
    crow m c j (ix3 0 r k) = X (ix2 ⟨256 * c.val + r.val, by have : c.val < 16 := c.isLt; omega⟩ ⟨256 * j.val + k.val, by omega⟩) := by
  have e : crow m c j (ix3 0 r k) = cval m c (ix3 j r k) := by
    refine congrArg (cval m c) (funext fun a => Fin.ext ?_)
    match a with
    | ⟨0, _⟩ => show j.val + 1 * 0 = j.val; omega
    | ⟨1, _⟩ => show 0 + 1 * r.val = r.val; omega
    | ⟨2, _⟩ => show 0 + 1 * k.val = k.val; omega
  rw [e, ← xval_at h j]
  refine congrArg (xval m j) (funext fun a => Fin.ext ?_)
  match a with
  | ⟨0, _⟩ => rfl
  | ⟨1, _⟩ => rfl

omit h in
/-- One device's part of the product: columns block `j` of `X` against rows block `j` of `W`, on the rows of block `c`. -/
def part (X : (⟨2, ![4096, 4096]⟩ : Shape).Idx → EReal) (W : (⟨2, ![4096, 2048]⟩ : Shape).Idx → EReal) (c j : Fin 16) (r : Fin 256) (n : Fin 2048) : EReal :=
  ∑ k : Fin 256, X (ix2 ⟨256 * c.val + r.val, by omega⟩ ⟨256 * j.val + k.val, by omega⟩) * W (ix2 ⟨256 * j.val + k.val, by omega⟩ n)

theorem acc_at (c : Dev nD) (t : ℕ) (r : Fin 256) (n : Fin 2048) :
    acc m c t (ix2 r n) = ∑ s ∈ Finset.range (t + 1), part X W c (back c s) r n := by
  induction t with
  | zero =>
    rw [Finset.sum_range_one]
    show k0_pay4 (xrow m c) (wrow m c c) (ix2 r n) = _
    rw [pay4_at, show back c 0 = c from by revert c; decide]
    refine Finset.sum_congr rfl fun k _ => ?_
    rw [xrow_at h, wrow_at h]
  | succ t ih =>
    rw [Finset.sum_range_succ, ← ih]
    show k0_pay7 (acc m c t) (crow m c (back c (t + 1))) (wrow m c (back c (t + 1))) (ix2 r n) = _
    rw [pay7_at]
    congr 1
    refine Finset.sum_congr rfl fun k _ => ?_
    rw [crow_at h, wrow_at h]

omit h in
theorem back_bij : ∀ c : Dev nD, Function.Injective fun s : Fin 16 => back c s.val := by decide +kernel

omit h in
/-- Block `c` of the rows of the product, as the sum of its sixteen parts. -/
theorem product_rows (c : Fin 16) (r : Fin 256) (n : Fin 2048) :
    product X W (ix2 ⟨256 * c.val + r.val, by omega⟩ n) = ∑ b : Fin 16, part X W c b r n := by
  unfold product part
  exact sum_runs _

/-- The sum device `c` ends with is its rows of the whole product. -/
theorem acc_eq (c : Dev nD) : acc m c 15 = Layout.block ⟨2, ![256, 2048]⟩ ⟨2, ![4096, 2048]⟩ 0 16 c (product X W) := by
  funext i
  refine ((congrArg (acc m c 15) (eq_ix2 i)).trans (acc_at h c 15 (i 0) (i 1))).trans ?_
  rw [← Fin.sum_univ_eq_sum_range (fun s => part X W c (back c s) (i 0) (i 1)) 16]
  rw [Function.Bijective.sum_comp (Finite.injective_iff_bijective.mp (back_bij c)) (fun b => part X W c b (i 0) (i 1))]
  refine (product_rows c (i 0) (i 1)).symm.trans ?_
  rw [Layout.block_apply]
  refine congrArg (product X W) (funext fun a => Fin.ext ?_)
  match a with
  | ⟨0, _⟩ => show 256 * c.val + (i 0).val = c.val * 256 + (i 0).val; omega
  | ⟨1, _⟩ => rfl

/-- The largest size device `c` ends with is that of the whole product. -/
theorem amax_eq (c : Dev nD) : (amax m 4 c : EReal) = largest (product X W) := by
  rw [amax_all]
  unfold largest
  refine le_antisymm (iSup_le fun d => ?_) (iSup_le fun I => ?_)
  · rw [amax_zero, pay24_at, acc_eq h d]
    exact iSup_le fun i => le_iSup (fun I => max (product X W I) (-(product X W I))) _
  · have h0 : (I 0).val < 4096 := (I 0).isLt
    have h1 : (I 1).val < 2048 := (I 1).isLt
    refine le_trans ?_ (le_iSup (fun d => (amax m 0 d : EReal)) (⟨(I 0).val / 256, by show _ < 16; omega⟩ : Dev nD))
    rw [amax_zero, pay24_at, acc_eq h]
    refine le_trans (le_of_eq ?_) (le_iSup (fun i => _) (ix2 (⟨(I 0).val % 256, by omega⟩ : Fin 256) (⟨(I 1).val, h1⟩ : Fin 2048)))
    rw [Layout.block_apply]
    have e : I = (Layout.Tiles.idx (S := ⟨2, ![256, 2048]⟩) (T := ⟨2, ![4096, 2048]⟩) (a := 0) (k := 16) (by decide) ⟨(I 0).val / 256, by omega⟩
        (ix2 (⟨(I 0).val % 256, by omega⟩ : Fin 256) (⟨(I 1).val, h1⟩ : Fin 2048))) := by
      funext a; apply Fin.ext
      match a with
      | ⟨0, _⟩ => show (I 0).val = (I 0).val / 256 * 256 + (I 0).val % 256; omega
      | ⟨1, _⟩ => rfl
    exact congrArg (fun I => max (product X W I) (-(product X W I))) e

/-- The result on device `c` is its block of the whole product through the quantiser and back. -/
theorem outv_eq (c : Dev nD) :
    outv m c = Layout.block ⟨2, ![256, 2048]⟩ ⟨2, ![4096, 2048]⟩ 0 16 c (requantised (product X W) (largest (product X W))) := by
  unfold outv scale
  rw [pay1_at, amax_eq h, acc_eq h]
  rfl

end Blocks

end Cert.KernelIdealProof

end
-- ==== Proof.Reference.lean ====
/-
# What the reference computes over the reals

The host lines leave the whole product and its scale; the quantiser's call then divides by the scale, clips, and
multiplies by the scale, and the clip changes nothing because no number is larger in size than the largest.
-/
module

public import proofs.«01_k».proof.Proof.Gen.ReferenceIdeal.Value
public import proofs.«01_k».proof.Proof.Values

@[expose] public section

set_option maxRecDepth 20000

noncomputable section

namespace Cert.ReferenceIdealProof

open Cert.ReferenceIdeal Cert.ReferenceIdeal.Gen Cert.ReferenceIdeal.Value

open Idealize.ShloMosaic
open Idealize.ShloMosaic.TcCoe
open Idealize.SL.Sem
open Idealize.ShloMosaic.ValueIdx
open Cert.Numbers
open Cert.KernelIdealProof (product largest requantised)

variable (m : (ℓ : Loc nD τ sig) → Buf (Elt Ideal) ℓ)

/-- The first argument of the reference. -/
abbrev argX : S4096x4096.Idx → EReal := m (((0 : Dev nD) : Thread nD τ).loc main_arg0)
/-- The second argument of the reference. -/
abbrev argW : S4096x2048.Idx → EReal := m (((0 : Dev nD) : Thread nD τ).loc main_arg1)

/-! ## The host lines -/

/-- The host's product of whole arrays. -/
theorem dot_eq (X : FVec Ideal S4096x4096 .bf16) (W : FVec Ideal S4096x2048 .bf16) :
    (Host.dotGeneral dot_S4096x4096_S4096x2048_S4096x2048_1_0_0_1_n_n none X W : FVec Ideal S4096x2048 .f32) = product X W := by
  funext i
  have e : i = ix2 (i 0) (i 1) := funext fun a => by match a with | ⟨0, _⟩ => rfl | ⟨1, _⟩ => rfl
  conv_lhs => rw [e]
  refine (Ideal.matmul_plain_apply (M := 4096) (K := 4096) (N := 2048) none X W (fun _ => 0) (i 0) (i 1)).trans ?_
  rw [zero_add]
  rfl

/-- The host's largest size. -/
theorem largest_eq (Y : FVec Ideal S4096x2048 .f32) (j : S_.Idx) :
    Host.reduce (FloatOps.maximumf (F := Ideal) (φ := .f32)) (Host.absf Y) (constant (F := Ideal) S_ .f32 0xFF800000#32) reducesTo_S4096x2048_S_d0_1 h_S_ j = largest Y := by
  haveI : Std.Commutative (FloatOps.maximumf (F := Ideal) (φ := .f32)) := ⟨fun a b => max_comm (α := EReal) a b⟩
  haveI : Std.Associative (FloatOps.maximumf (F := Ideal) (φ := .f32)) := ⟨fun a b c => max_assoc (α := EReal) a b c⟩
  refine (Host.reduce_eq_fold _ _ _ _ _ j).trans ?_
  have one : ∀ x y : S_.Idx, x = y := fun x y => funext fun a => a.elim0
  rw [Finset.filter_true_of_mem fun i _ => one _ _]
  show Finset.univ.fold max (Ideal.ofBits .f32 0xFF800000#32) (fun i => max (Y i) (-(Y i))) = _
  rw [word_bot, fold_max_eq_sup, Finset.sup_univ_eq_iSup]
  rfl

/-- The product, as the quantiser's call finds it. -/
theorem V_y : V m 0 main_v0 = product (argX m) (argW m) := by
  show StableHlo.after hostOps0 _ (Proc.devRef .tc main_v0) = _
  after_results
  exact dot_eq _ _

/-- The host's scale: the largest size over 448. -/
theorem scale_at (Y : FVec Ideal S4096x2048 .f32) (j : S_.Idx) :
    Host.divf (Host.reduce (FloatOps.maximumf (F := Ideal) (φ := .f32)) (Host.absf Y) (constant (F := Ideal) S_ .f32 0xFF800000#32) reducesTo_S4096x2048_S_d0_1 h_S_)
      (constant (F := Ideal) S_ .f32 0x43E00000#32) j = scaleOf (largest Y) := by
  show Ideal.div (Host.reduce (FloatOps.maximumf (F := Ideal) (φ := .f32)) (Host.absf Y) (constant (F := Ideal) S_ .f32 0xFF800000#32) reducesTo_S4096x2048_S_d0_1 h_S_ j)
    (Ideal.ofBits .f32 0x43E00000#32) = _
  rw [largest_eq, word_448]
  rfl

/-- The scale, as the quantiser's call finds it. -/
theorem V_scale : V m 0 main_v4 = fun _ => scaleOf (largest (product (argX m) (argW m))) := by
  show StableHlo.after hostOps0 _ (Proc.devRef .tc main_v4) = _
  after_results
  funext i
  refine (scale_at (Host.dotGeneral (F := Ideal) (φ₁ := .bf16) (φ₂ := .bf16) dot_S4096x4096_S4096x2048_S4096x2048_1_0_0_1_n_n none (argX m) (argW m)) _).trans ?_
  exact congrArg (fun Y => scaleOf (largest (s := S4096x2048) Y)) (dot_eq (argX m) (argW m))

/-! ## The quantiser's call -/

/-- Its first block is the whole product. -/
theorem iblk_y (t : Fin cfg0.N) : iblk m 0 0 t = product (argX m) (argW m) := by
  obtain rfl : t = (0 : Fin 1) := Subsingleton.elim (α := Fin 1) _ _
  have hz : (fun a => (win0_0.index (0 : Fin 1)) a * main_v0.ty.shape.size a) = fun _ => 0 :=
    funext fun a => by fin_cases a <;> decide
  have hr := fun f => Memref.read_access_unit_zero (Elt Ideal) main_v0 hz (fun a => by fin_cases a <;> decide) f
  exact (hr _).trans (V_y m)

/-- Its second block is the scale. -/
theorem iblk_scale (t : Fin cfg0.N) : iblk m 0 1 t = fun _ => scaleOf (largest (product (argX m) (argW m))) := by
  obtain rfl : t = (0 : Fin 1) := Subsingleton.elim (α := Fin 1) _ _
  have hz : (fun a => (win0_1.index (0 : Fin 1)) a * main_v4.ty.shape.size a) = fun _ => 0 :=
    funext fun a => by fin_cases a <;> decide
  have hr := fun f => Memref.read_access_unit_zero (Elt Ideal) main_v4 hz (fun a => by fin_cases a <;> decide) f
  exact (hr _).trans (V_scale m)

/-- The quantiser at an array and the scale of its largest size. -/
theorem quantiser_eq (Y : Vec Ideal S4096x2048 .f32) :
    out0_2 (F := Ideal) Y (fun _ => scaleOf (largest Y)) = requantised Y (largest Y) := by
  have hz : (![0, 0] : Fin 2 → ℕ) = fun _ => 0 := funext fun a => by fin_cases a <;> rfl
  funext i
  unfold out0_2
  refine (canon2_eq _ _ i).trans ?_
  have e : View.ld Y r0_1 = Y := View.ld_unit_zero (S := S4096x2048) hz _ Y
  rw [e]
  have ei : ix2_0 i = i := funext fun a => by match a with | ⟨0, _⟩ => rfl | ⟨1, _⟩ => rfl
  show min (Ideal.ofBits .f32 0x43E00000#32) (max (Ideal.ofBits .f32 0xC3E00000#32) (Ideal.div (Y (ix2_0 i)) (scaleOf (largest Y)))) * scaleOf (largest Y) = _
  rw [ei, word_448, word_neg_448]
  exact clip_scale _ _ (le_iSup (fun i => max (Y i) (-(Y i))) i)

/-- The result of the reference. -/
theorem result_eq : (dats m 0 0).arrAt 2 cfg0.N = requantised (product (argX m) (argW m)) (largest (product (argX m) (argW m))) := by
  have hz : (fun a => (win0_2.index (0 : Fin 1)) a * main_v5.ty.shape.size a) = fun _ => 0 :=
    funext fun a => by fin_cases a <;> decide
  have hr := fun f => Memref.read_access_unit_zero (Elt Ideal) main_v5 hz (fun a => by fin_cases a <;> decide) f
  refine (hr _).symm.trans ((blocks2 m 0 (0 : Fin 1) (flush0_2 _)).trans ((flushed2 m 0 (0 : Fin 1)).trans ?_))
  have e := congrArg₂ (out0_2 (F := Ideal)) (iblk_y m (0 : Fin 1)) (iblk_scale m (0 : Fin 1))
  exact e.trans (quantiser_eq _)

end Cert.ReferenceIdealProof

end
-- ==== Proof.lean ====
module

public import proofs.«01_k».proof.Defs
public import proofs.«01_k».proof.Proof.Same
public import proofs.«01_k».proof.Proof.Values
public import proofs.«01_k».proof.Proof.Reference
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import Idealize.ShloMosaic.Adequacy
public import Idealize.ShloMosaic.Init

@[expose] public section

noncomputable section

namespace Cert.Proof

open Idealize.ShloMosaic Idealize.SL.Sem Cert.Kernel

/-- For any float values: the kernel terminates, its arguments are unchanged, every semaphore ends at zero. -/
theorem frame_any {F : FTy → Type} [FloatOps F] (m : (ℓ : Loc KernelIdeal.nD KernelIdeal.τ KernelIdeal.sig) → Buf (Elt F) ℓ)
    (ρ : Dev KernelIdeal.nD → PrngReg) :
    θ_run KernelIdeal.defs (onTc (τ := KernelIdeal.τ) (KernelIdeal.main (F := F))) ⟨m, fun _ => 0, ρ⟩ (fun r =>
      (∀ c : Dev KernelIdeal.nD,
        r.2.mem ((c.tc : Thread _ KernelIdeal.τ).loc KernelIdeal.main_arg0) = m ((c.tc : Thread _ KernelIdeal.τ).loc KernelIdeal.main_arg0)
        ∧ r.2.mem ((c.tc : Thread _ KernelIdeal.τ).loc KernelIdeal.main_arg1) = m ((c.tc : Thread _ KernelIdeal.τ).loc KernelIdeal.main_arg1))
      ∧ r.2.sem = fun _ => 0) :=
  (θ_run KernelIdeal.defs _ _).mono
    (fun _ h => ⟨fun c => ⟨(h.1 c (0 : Fin 3)).trans (KernelIdealProof.finalA_x m ρ c), (h.1 c (1 : Fin 3)).trans (KernelIdealProof.finalA_w m ρ c)⟩, h.2⟩)
    (KernelIdealProof.run_main m ρ)

/-- The kernel at the float words. -/
theorem frame_kernel : Cert.quiescent_Kernel := by
  intro m ρ _
  have h := frame_any (F := Bits) m ρ
  rw [← KernelIdealProof.defs_same] at h
  exact h

/-- The kernel over the reals. -/
theorem frame_kernelIdeal : Cert.quiescent_KernelIdeal := fun m ρ _ => frame_any (F := Ideal) m ρ

/-- The reference over the reals: it terminates, its arguments are unchanged, every semaphore ends at zero. -/
theorem frame_referenceIdeal : Cert.quiescent_ReferenceIdeal := fun m ρ _ => Cert.ReferenceIdeal.Gen.frame m ρ

/-- Over the reals, the kernel on the sharded arguments and the reference on the whole ones both run to the end, each device's
result is its rows block of the reference's result, and all arguments are unchanged. -/
theorem algebraic : Cert.algebraic_KernelIdeal_ReferenceIdeal := by
  intro m g m' g' _ hagree
  have hL : KernelIdealProof.Launched m (ReferenceIdealProof.argX m') (ReferenceIdealProof.argW m') := fun c => ⟨(hagree c).1, (hagree c).2⟩
  refine ⟨KernelIdealProof.requantised (KernelIdealProof.product (ReferenceIdealProof.argX m') (ReferenceIdealProof.argW m'))
    (KernelIdealProof.largest (KernelIdealProof.product (ReferenceIdealProof.argX m') (ReferenceIdealProof.argW m'))), ?_, ?_⟩
  · exact (θ_run KernelIdeal.defs _ _).mono
      (fun _ h c => ⟨(h.1 c (2 : Fin 3)).trans ((KernelIdealProof.finalA_o m g c).trans (KernelIdealProof.outv_eq hL c)),
        (h.1 c (0 : Fin 3)).trans (KernelIdealProof.finalA_x m g c), (h.1 c (1 : Fin 3)).trans (KernelIdealProof.finalA_w m g c)⟩)
      (KernelIdealProof.run_main (F := Ideal) m g)
  · exact (θ_run ReferenceIdeal.defs _ _).mono
      (fun _ h => ⟨(h 0).1.trans (ReferenceIdealProof.result_eq m'), (h 0).2.1, (h 0).2.2⟩)
      (ReferenceIdeal.Value.run_blocks (F := Ideal) m' g')

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
